-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Pre_finite_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S1024x768 : Shape := ⟨2, ![1024, 768]⟩
abbrev S2x512x8x64 : Shape := ⟨4, ![2, 512, 8, 64]⟩
abbrev S2x8x512x64 : Shape := ⟨4, ![2, 8, 512, 64]⟩
abbrev S16x512x64 : Shape := ⟨3, ![16, 512, 64]⟩
abbrev S512x512 : Shape := ⟨2, ![512, 512]⟩
abbrev S2x8x64x768 : Shape := ⟨4, ![2, 8, 64, 768]⟩
abbrev S2x64x768 : Shape := ⟨3, ![2, 64, 768]⟩
abbrev S16 : Shape := ⟨1, ![16]⟩
abbrev S1024x512 : Shape := ⟨2, ![1024, 512]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1 : Shape := ⟨1, ![1]⟩
abbrev S1x1x64x768 : Shape := ⟨4, ![1, 1, 64, 768]⟩
abbrev S64x768 : Shape := ⟨2, ![64, 768]⟩
abbrev S1x64x768 : Shape := ⟨3, ![1, 64, 768]⟩

abbrev nBuf : Space → Nat
  | .hbm => 40
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x768, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x8x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x512x8x64, .bf16⟩
  | .hbm, ⟨34, _⟩ => ⟨S2x8x512x64, .bf16⟩
  | .hbm, ⟨35, _⟩ => ⟨S16x512x64, .bf16⟩
  | .hbm, ⟨36, _⟩ => ⟨S2x8x512x64, .bf16⟩
  | .hbm, ⟨37, _⟩ => ⟨S16x512x64, .bf16⟩
  | .hbm, ⟨38, _⟩ => ⟨S1024x768, .f32⟩
  | .hbm, ⟨39, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S16x512x64, .bf16⟩
  | .local _ .vmem, ⟨3, _⟩ => ⟨S16x512x64, .bf16⟩
  | .local _ .vmem, ⟨4, _⟩ => ⟨S512x768, .bf16⟩
  | .local _ .vmem, ⟨5, _⟩ => ⟨S1024x768, .f32⟩
  | .local _ .vmem, ⟨6, _⟩ => ⟨S1024x768, .bf16⟩
  | .local _ .vmem, ⟨7, _⟩ => ⟨S512x512, .bf16⟩
  | .local _ .vmem, ⟨8, _⟩ => ⟨S2x8x64x768, .bf16⟩
  | .local _ .vmem, ⟨9, _⟩ => ⟨S2x8x64x768, .bf16⟩
  | .local _ .vmem, ⟨10, _⟩ => ⟨S2x64x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_131 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v228 : BitVec 32 := Scalar.addi c0_i32_131 v2
  ![v228.toNat]
def k0_off2 (d0 : Dev nD) : Fin 4 → Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_137 : BitVec 32 := 0#32
  let c0_i32_138 : BitVec 32 := 0#32
  ![0, v2.toNat, 0, 0]
def k0_dev8 : Nat :=
  let c0_i32_136 : BitVec 32 := 0#32
  let c0_i32_134 : BitVec 32 := 0#32
  let c1_i32_135 : BitVec 32 := 1#32
  let v229 : BitVec 32 := Scalar.muli c0_i32_134 c1_i32_135
  let v230 : BitVec 32 := Scalar.addi c0_i32_136 v229
  v230.toNat
def k0_dev9 : Nat :=
  let c0_i32_146 : BitVec 32 := 0#32
  let c1_i32_144 : BitVec 32 := 1#32
  let c1_i32_145 : BitVec 32 := 1#32
  let v239 : BitVec 32 := Scalar.muli c1_i32_144 c1_i32_145
  let v240 : BitVec 32 := Scalar.addi c0_i32_146 v239
  v240.toNat
def k0_dev10 : Nat :=
  let c0_i32_155 : BitVec 32 := 0#32
  let c2_i32_153 : BitVec 32 := 2#32
  let c1_i32_154 : BitVec 32 := 1#32
  let v249 : BitVec 32 := Scalar.muli c2_i32_153 c1_i32_154
  let v250 : BitVec 32 := Scalar.addi c0_i32_155 v249
  v250.toNat
def k0_dev11 : Nat :=
  let c0_i32_165 : BitVec 32 := 0#32
  let c3_i32_163 : BitVec 32 := 3#32
  let c1_i32_164 : BitVec 32 := 1#32
  let v259 : BitVec 32 := Scalar.muli c3_i32_163 c1_i32_164
  let v260 : BitVec 32 := Scalar.addi c0_i32_165 v259
  v260.toNat
def k0_dev12 : Nat :=
  let c0_i32_174 : BitVec 32 := 0#32
  let c4_i32_172 : BitVec 32 := 4#32
  let c1_i32_173 : BitVec 32 := 1#32
  let v269 : BitVec 32 := Scalar.muli c4_i32_172 c1_i32_173
  let v270 : BitVec 32 := Scalar.addi c0_i32_174 v269
  v270.toNat
def k0_dev13 : Nat :=
  let c0_i32_183 : BitVec 32 := 0#32
  let c5_i32_181 : BitVec 32 := 5#32
  let c1_i32_182 : BitVec 32 := 1#32
  let v279 : BitVec 32 := Scalar.muli c5_i32_181 c1_i32_182
  let v280 : BitVec 32 := Scalar.addi c0_i32_183 v279
  v280.toNat
def k0_dev14 : Nat :=
  let c0_i32_192 : BitVec 32 := 0#32
  let c6_i32_190 : BitVec 32 := 6#32
  let c1_i32_191 : BitVec 32 := 1#32
  let v289 : BitVec 32 := Scalar.muli c6_i32_190 c1_i32_191
  let v290 : BitVec 32 := Scalar.addi c0_i32_192 v289
  v290.toNat
def k0_dev15 : Nat :=
  let c0_i32_201 : BitVec 32 := 0#32
  let c7_i32_199 : BitVec 32 := 7#32
  let c1_i32_200 : BitVec 32 := 1#32
  let v299 : BitVec 32 := Scalar.muli c7_i32_199 c1_i32_200
  let v300 : BitVec 32 := Scalar.addi c0_i32_201 v299
  v300.toNat
def k0_off3 (d0 : Dev nD) : Fin 4 → Nat :=
  let c1_i32_308 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  let c0_i32_314 : BitVec 32 := 0#32
  ![1, v2.toNat, 0, 0]
def k0_dev16 : Nat :=
  let c0_i32_312 : BitVec 32 := 0#32
  let c0_i32_310 : BitVec 32 := 0#32
  let c1_i32_311 : BitVec 32 := 1#32
  let v485 : BitVec 32 := Scalar.muli c0_i32_310 c1_i32_311
  let v486 : BitVec 32 := Scalar.addi c0_i32_312 v485
  v486.toNat
def k0_dev17 : Nat :=
  let c0_i32_320 : BitVec 32 := 0#32
  let c1_i32_318 : BitVec 32 := 1#32
  let c1_i32_319 : BitVec 32 := 1#32
  let v495 : BitVec 32 := Scalar.muli c1_i32_318 c1_i32_319
  let v496 : BitVec 32 := Scalar.addi c0_i32_320 v495
  v496.toNat
def k0_dev18 : Nat :=
  let c0_i32_328 : BitVec 32 := 0#32
  let c2_i32_326 : BitVec 32 := 2#32
  let c1_i32_327 : BitVec 32 := 1#32
  let v505 : BitVec 32 := Scalar.muli c2_i32_326 c1_i32_327
  let v506 : BitVec 32 := Scalar.addi c0_i32_328 v505
  v506.toNat
def k0_dev19 : Nat :=
  let c0_i32_336 : BitVec 32 := 0#32
  let c3_i32_334 : BitVec 32 := 3#32
  let c1_i32_335 : BitVec 32 := 1#32
  let v515 : BitVec 32 := Scalar.muli c3_i32_334 c1_i32_335
  let v516 : BitVec 32 := Scalar.addi c0_i32_336 v515
  v516.toNat
def k0_dev20 : Nat :=
  let c0_i32_344 : BitVec 32 := 0#32
  let c4_i32_342 : BitVec 32 := 4#32
  let c1_i32_343 : BitVec 32 := 1#32
  let v525 : BitVec 32 := Scalar.muli c4_i32_342 c1_i32_343
  let v526 : BitVec 32 := Scalar.addi c0_i32_344 v525
  v526.toNat
def k0_dev21 : Nat :=
  let c0_i32_352 : BitVec 32 := 0#32
  let c5_i32_350 : BitVec 32 := 5#32
  let c1_i32_351 : BitVec 32 := 1#32
  let v535 : BitVec 32 := Scalar.muli c5_i32_350 c1_i32_351
  let v536 : BitVec 32 := Scalar.addi c0_i32_352 v535
  v536.toNat
def k0_dev22 : Nat :=
  let c0_i32_360 : BitVec 32 := 0#32
  let c6_i32_358 : BitVec 32 := 6#32
  let c1_i32_359 : BitVec 32 := 1#32
  let v545 : BitVec 32 := Scalar.muli c6_i32_358 c1_i32_359
  let v546 : BitVec 32 := Scalar.addi c0_i32_360 v545
  v546.toNat
def k0_dev23 : Nat :=
  let c0_i32_368 : BitVec 32 := 0#32
  let c7_i32_366 : BitVec 32 := 7#32
  let c1_i32_367 : BitVec 32 := 1#32
  let v555 : BitVec 32 := Scalar.muli c7_i32_366 c1_i32_367
  let v556 : BitVec 32 := Scalar.addi c0_i32_368 v555
  v556.toNat
def k0_dev24 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let v657 : BitVec 32 := Scalar.addi v2 c0_i32_496
  let c8_i32_497 : BitVec 32 := 8#32
  let v658 : BitVec 32 := Scalar.remsi v657 c8_i32_497
  let c1_i32_502 : BitVec 32 := 1#32
  let v660 : BitVec 32 := Scalar.muli v658 c1_i32_502
  let v661 : BitVec 32 := Scalar.addi c0_i32_503 v660
  v661.toNat
def k0_dev25 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_508 : BitVec 32 := 1#32
  let v670 : BitVec 32 := Scalar.addi v2 c1_i32_508
  let c8_i32_509 : BitVec 32 := 8#32
  let v671 : BitVec 32 := Scalar.remsi v670 c8_i32_509
  let c1_i32_514 : BitVec 32 := 1#32
  let v673 : BitVec 32 := Scalar.muli v671 c1_i32_514
  let v674 : BitVec 32 := Scalar.addi c0_i32_515 v673
  v674.toNat
def k0_dev26 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_520 : BitVec 32 := 2#32
  let v683 : BitVec 32 := Scalar.addi v2 c2_i32_520
  let c8_i32_521 : BitVec 32 := 8#32
  let v684 : BitVec 32 := Scalar.remsi v683 c8_i32_521
  let c1_i32_526 : BitVec 32 := 1#32
  let v686 : BitVec 32 := Scalar.muli v684 c1_i32_526
  let v687 : BitVec 32 := Scalar.addi c0_i32_527 v686
  v687.toNat
def k0_dev27 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_532 : BitVec 32 := 3#32
  let v696 : BitVec 32 := Scalar.addi v2 c3_i32_532
  let c8_i32_533 : BitVec 32 := 8#32
  let v697 : BitVec 32 := Scalar.remsi v696 c8_i32_533
  let c1_i32_538 : BitVec 32 := 1#32
  let v699 : BitVec 32 := Scalar.muli v697 c1_i32_538
  let v700 : BitVec 32 := Scalar.addi c0_i32_539 v699
  v700.toNat
def k0_dev28 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_544 : BitVec 32 := 4#32
  let v709 : BitVec 32 := Scalar.addi v2 c4_i32_544
  let c8_i32_545 : BitVec 32 := 8#32
  let v710 : BitVec 32 := Scalar.remsi v709 c8_i32_545
  let c1_i32_550 : BitVec 32 := 1#32
  let v712 : BitVec 32 := Scalar.muli v710 c1_i32_550
  let v713 : BitVec 32 := Scalar.addi c0_i32_551 v712
  v713.toNat
def k0_dev29 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_556 : BitVec 32 := 5#32
  let v722 : BitVec 32 := Scalar.addi v2 c5_i32_556
  let c8_i32_557 : BitVec 32 := 8#32
  let v723 : BitVec 32 := Scalar.remsi v722 c8_i32_557
  let c1_i32_562 : BitVec 32 := 1#32
  let v725 : BitVec 32 := Scalar.muli v723 c1_i32_562
  let v726 : BitVec 32 := Scalar.addi c0_i32_563 v725
  v726.toNat
def k0_dev30 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_568 : BitVec 32 := 6#32
  let v735 : BitVec 32 := Scalar.addi v2 c6_i32_568
  let c8_i32_569 : BitVec 32 := 8#32
  let v736 : BitVec 32 := Scalar.remsi v735 c8_i32_569
  let c1_i32_574 : BitVec 32 := 1#32
  let v738 : BitVec 32 := Scalar.muli v736 c1_i32_574
  let v739 : BitVec 32 := Scalar.addi c0_i32_575 v738
  v739.toNat
def k0_dev31 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_580 : BitVec 32 := 7#32
  let v748 : BitVec 32 := Scalar.addi v2 c7_i32_580
  let c8_i32_581 : BitVec 32 := 8#32
  let v749 : BitVec 32 := Scalar.remsi v748 c8_i32_581
  let c1_i32_586 : BitVec 32 := 1#32
  let v751 : BitVec 32 := Scalar.muli v749 c1_i32_586
  let v752 : BitVec 32 := Scalar.addi c0_i32_587 v751
  v752.toNat
def k0_dev32 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_716 : BitVec 32 := 0#32
  let v854 : BitVec 32 := Scalar.addi v2 c0_i32_716
  let c8_i32_717 : BitVec 32 := 8#32
  let v855 : BitVec 32 := Scalar.remsi v854 c8_i32_717
  let c1_i32_722 : BitVec 32 := 1#32
  let v857 : BitVec 32 := Scalar.muli v855 c1_i32_722
  let v858 : BitVec 32 := Scalar.addi c0_i32_723 v857
  v858.toNat
def k0_dev33 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v867 : BitVec 32 := Scalar.addi v2 c1_i32_728
  let c8_i32_729 : BitVec 32 := 8#32
  let v868 : BitVec 32 := Scalar.remsi v867 c8_i32_729
  let c1_i32_734 : BitVec 32 := 1#32
  let v870 : BitVec 32 := Scalar.muli v868 c1_i32_734
  let v871 : BitVec 32 := Scalar.addi c0_i32_735 v870
  v871.toNat
def k0_dev34 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_740 : BitVec 32 := 2#32
  let v880 : BitVec 32 := Scalar.addi v2 c2_i32_740
  let c8_i32_741 : BitVec 32 := 8#32
  let v881 : BitVec 32 := Scalar.remsi v880 c8_i32_741
  let c1_i32_746 : BitVec 32 := 1#32
  let v883 : BitVec 32 := Scalar.muli v881 c1_i32_746
  let v884 : BitVec 32 := Scalar.addi c0_i32_747 v883
  v884.toNat
def k0_dev35 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_752 : BitVec 32 := 3#32
  let v893 : BitVec 32 := Scalar.addi v2 c3_i32_752
  let c8_i32_753 : BitVec 32 := 8#32
  let v894 : BitVec 32 := Scalar.remsi v893 c8_i32_753
  let c1_i32_758 : BitVec 32 := 1#32
  let v896 : BitVec 32 := Scalar.muli v894 c1_i32_758
  let v897 : BitVec 32 := Scalar.addi c0_i32_759 v896
  v897.toNat
def k0_dev36 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_764 : BitVec 32 := 4#32
  let v906 : BitVec 32 := Scalar.addi v2 c4_i32_764
  let c8_i32_765 : BitVec 32 := 8#32
  let v907 : BitVec 32 := Scalar.remsi v906 c8_i32_765
  let c1_i32_770 : BitVec 32 := 1#32
  let v909 : BitVec 32 := Scalar.muli v907 c1_i32_770
  let v910 : BitVec 32 := Scalar.addi c0_i32_771 v909
  v910.toNat
def k0_dev37 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_776 : BitVec 32 := 5#32
  let v919 : BitVec 32 := Scalar.addi v2 c5_i32_776
  let c8_i32_777 : BitVec 32 := 8#32
  let v920 : BitVec 32 := Scalar.remsi v919 c8_i32_777
  let c1_i32_782 : BitVec 32 := 1#32
  let v922 : BitVec 32 := Scalar.muli v920 c1_i32_782
  let v923 : BitVec 32 := Scalar.addi c0_i32_783 v922
  v923.toNat
def k0_dev38 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_788 : BitVec 32 := 6#32
  let v932 : BitVec 32 := Scalar.addi v2 c6_i32_788
  let c8_i32_789 : BitVec 32 := 8#32
  let v933 : BitVec 32 := Scalar.remsi v932 c8_i32_789
  let c1_i32_794 : BitVec 32 := 1#32
  let v935 : BitVec 32 := Scalar.muli v933 c1_i32_794
  let v936 : BitVec 32 := Scalar.addi c0_i32_795 v935
  v936.toNat
def k0_dev39 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_800 : BitVec 32 := 7#32
  let v945 : BitVec 32 := Scalar.addi v2 c7_i32_800
  let c8_i32_801 : BitVec 32 := 8#32
  let v946 : BitVec 32 := Scalar.remsi v945 c8_i32_801
  let c1_i32_806 : BitVec 32 := 1#32
  let v948 : BitVec 32 := Scalar.muli v946 c1_i32_806
  let v949 : BitVec 32 := Scalar.addi c0_i32_807 v948
  v949.toNat
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x512x768, .f32⟩
  | .hbm, ⟨6, _⟩ => ⟨S768x4096, .f32⟩
  | .hbm, ⟨7, _⟩ => ⟨S2x512x64x64, .f32⟩
  | .hbm, ⟨8, _⟩ => ⟨S2x512x64x64, .f32⟩
  | .hbm, ⟨9, _⟩ => ⟨S4096x768, .f32⟩
  | .hbm, ⟨10, _⟩ => ⟨S2x512x4096, .f32⟩
  | .hbm, ⟨11, _⟩ => ⟨S2x512x64x64, .f32⟩
  | .hbm, ⟨12, _⟩ => ⟨S512, .i32⟩
  | .hbm, ⟨13, _⟩ => ⟨S512x1, .i32⟩
  | .hbm, ⟨14, _⟩ => ⟨S512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S1x512, .i32⟩
  | .hbm, ⟨25, _⟩ => ⟨S1x512, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x512, .i1⟩
  | .hbm, ⟨30, _⟩ => ⟨S512x512, .i1⟩
  | .hbm, ⟨31, _⟩ => ⟨S512x512, .i1⟩
  | .hbm, ⟨32, _⟩ => ⟨S512x512, .i1⟩
  | .hbm, ⟨33, _⟩ => ⟨S2x64x512x512, .f32⟩
  | .hbm, ⟨34, _⟩ => ⟨S_, .f32⟩
  | .hbm, ⟨35, _⟩ => ⟨S2x64x512x512, .f32⟩
  | .hbm, ⟨36, _⟩ => ⟨S2x64x512x512, .f32⟩
  | .hbm, ⟨37, _⟩ => ⟨S1x1x512x512, .i1⟩
  | .hbm, ⟨38, _⟩ => ⟨S_, .f32⟩
  | .hbm, ⟨39, _⟩ => ⟨S_, .f32⟩
  | .hbm, ⟨40, _⟩ => ⟨S2x64x512x512, .i1⟩
  | .hbm, ⟨41, _⟩ => ⟨S2x64x512x512, .f32⟩
  | .hbm, ⟨42, _⟩ => ⟨S2x64x512x512, .f32⟩
  | .hbm, ⟨43, _⟩ => ⟨S_, .f32⟩
  | .hbm, ⟨44, _⟩ => ⟨S2x64x512, .f32⟩
  | .hbm, ⟨45, _⟩ => ⟨S2x64x512x1, .f32⟩
  | .hbm, ⟨46, _⟩ => ⟨S2x64x512x512, .f32⟩
  | .hbm, ⟨47, _⟩ => ⟨S2x64x512x512, .f32⟩
  | .hbm, ⟨48, _⟩ => ⟨S2x64x512x512, .f32⟩
  | .hbm, ⟨49, _⟩ => ⟨S_, .i1⟩
  | .hbm, ⟨50, _⟩ => ⟨S512, .i1⟩
  | .hbm, ⟨51, _⟩ => ⟨S1x1x512x1, .i1⟩
  | .hbm, ⟨52, _⟩ => ⟨S_, .f32⟩
  | .hbm, ⟨53, _⟩ => ⟨S2x64x512, .f32⟩
  | .hbm, ⟨54, _⟩ => ⟨S2x64x512x1, .f32⟩
  | .hbm, ⟨55, _⟩ => ⟨S_, .f32⟩
  | .hbm, ⟨56, _⟩ => ⟨S_, .f32⟩
  | .hbm, ⟨57, _⟩ => ⟨S2x64x512x1, .i1⟩
  | .hbm, ⟨58, _⟩ => ⟨S2x64x512x1, .f32⟩
  | .hbm, ⟨59, _⟩ => ⟨S2x64x512x1, .f32⟩
  | .hbm, ⟨60, _⟩ => ⟨S2x64x512x512, .f32⟩
  | .hbm, ⟨61, _⟩ => ⟨S2x64x512x512, .f32⟩
  | .hbm, ⟨62, _⟩ => ⟨S1x1x512x1, .i1⟩
  | .hbm, ⟨63, _⟩ => ⟨S_, .f32⟩
  | .hbm, ⟨64, _⟩ => ⟨S_, .f32⟩
  | .hbm, ⟨65, _⟩ => ⟨S2x64x512x512, .i1⟩
  | .hbm, ⟨66, _⟩ => ⟨S2x64x512x512, .f32⟩
  | .hbm, ⟨67, _⟩ => ⟨S2x64x512x512, .f32⟩
  | .hbm, ⟨68, _⟩ => ⟨S2x64x64x512, .f32⟩
  | .hbm, ⟨69, _⟩ => ⟨S2x512x64x64, .f32⟩
  | .hbm, ⟨70, _⟩ => ⟨S2x512x4096, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Protocol.lean ====
/-
  The protocol the eight devices follow: the semaphore cells, the buffers each one guards, and the contents every
  landing hands over.  It is stated once, for a symbolic device and for any partial products `P`.

  * barrier cell of `c`: seven units, one from every other device `p`; each hands `c` the right to write `p`'s
    reduce-scatter and all-gather slots numbered `c`, and that round 0 of `p`'s receive cells numbered `c` is reached;
  * family 0 (reduce-scatter send), index `(b, k)`: `c`'s own copy to `k`; gives the chunk back;
  * family 1 (reduce-scatter receive), index `(b, p)`: the copy of `p`; gives slot `(b, p)` at `p`'s chunk `c`;
  * family 2 (all-gather send), index `(b, d)`: `c`'s own copy to the device `d` places on; gives the share back;
  * family 3 (all-gather receive), index `(b, p)`: the copy of `p`; gives slot `(b, p)` at `p`'s reduced block.
-/
module

public import proofs.«01_k».proof.Proof.Gen.KernelIdeal.Skeleton
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.MemrefSat
public import Idealize.ShloMosaic.Lib.Transfers
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Facts

variable {F : FTy → Type} [FloatOps F]

/-- The duties of one cell are numbered by the devices that pay them. -/
abbrev Duty : Type := Fin 8

/-- The ghost state: the pipeline's own copy of the rounds algebra and the protocol's. -/
abbrev UU : Type := UR sig nD τ × URounds (GSem nD τ sig) Duty

local notation "𝕄" => MT nD τ sig Unit (Elt F) ℕ UU ℕ

/-- Where the pipeline's ghost state lies. -/
abbrev EP : Emb (UR sig nD τ) (MT nD τ sig Unit (Elt F) ℕ UU ℕ) := embL
/-- Where the rounds' ghost state lies. -/
abbrev ER : Emb (URounds (GSem nD τ sig) Duty) (MT nD τ sig Unit (Elt F) ℕ UU ℕ) := embR

/-! ## Buffers -/

/-- The partial products of the two batches. -/
abbrev A6 : Memref sig .tc .vmem S1024x768 .bf16 := Memref.whole cc0_scratch0
/-- The context of one batch. -/
abbrev A7 : Memref sig .tc .vmem S512x512 .bf16 := Memref.whole cc0_scratch1
/-- The slots of the reduce-scatter. -/
abbrev A8 : Memref sig .tc .vmem S2x8x64x768 .bf16 := Memref.whole cc0_scratch2
/-- The slots of the all-gather. -/
abbrev A9 : Memref sig .tc .vmem S2x8x64x768 .bf16 := Memref.whole cc0_scratch3
/-- The reduced chunks of the two batches. -/
abbrev A10 : Memref sig .tc .vmem S2x64x768 .bf16 := Memref.whole cc0_scratch4

/-- A slot lies in its array. -/
theorem slot_inb (b : Fin 2) (k : Fin 8) : ∀ a, (![b.val, k.val, 0, 0] : Fin 4 → ℕ) a + S1x1x64x768.size a ≤ S2x8x64x768.size a := by
  revert b k; decide
/-- A plane lies in its array. -/
theorem plane_inb (b : Fin 2) : ∀ a, (![b.val, 0, 0] : Fin 3 → ℕ) a + S1x64x768.size a ≤ S2x64x768.size a := by
  revert b; decide
/-- A chunk lies in the partial products. -/
theorem chunk_inb (b : Fin 2) (k : Fin 8) : ∀ a, (![512 * b.val + 64 * k.val, 0] : Fin 2 → ℕ) a + S64x768.size a ≤ S1024x768.size a := by
  revert b k; decide
/-- A batch's rows lie in the partial products. -/
theorem half_inb (b : Fin 2) : ∀ a, (![512 * b.val, 0] : Fin 2 → ℕ) a + S512x768.size a ≤ S1024x768.size a := by
  revert b; decide
/-- A chunk lies in its batch's rows. -/
theorem part_inb (k : Fin 8) : ∀ a, (![64 * k.val, 0] : Fin 2 → ℕ) a + S64x768.size a ≤ S512x768.size a := by
  revert k; decide

/-- Slot `(b, k)` of a receive buffer, as the four-axis rectangle. -/
abbrev slotRect (b : Fin 2) (k : Fin 8) : Rect S2x8x64x768 := Rect.unit (s := S2x8x64x768) ![b.val, k.val, 0, 0] S1x1x64x768.size (slot_inb b k)
/-- The plane of a batch's reduced chunk. -/
abbrev planeRect (b : Fin 2) : Rect S2x64x768 := Rect.unit (s := S2x64x768) ![b.val, 0, 0] S1x64x768.size (plane_inb b)
/-- The rows of a batch's chunk for a device. -/
abbrev chunkRect (b : Fin 2) (k : Fin 8) : Rect S1024x768 := Rect.unit (s := S1024x768) ![512 * b.val + 64 * k.val, 0] S64x768.size (chunk_inb b k)
/-- The rows of a batch. -/
abbrev halfRect (b : Fin 2) : Rect S1024x768 := Rect.unit (s := S1024x768) ![512 * b.val, 0] S512x768.size (half_inb b)
/-- The rows of a chunk inside its batch. -/
abbrev partRect (k : Fin 8) : Rect S512x768 := Rect.unit (s := S512x768) ![64 * k.val, 0] S64x768.size (part_inb k)

/-- Slot `(b, k)` of the reduce-scatter buffer. -/
abbrev rsSlot (b : Fin 2) (k : Fin 8) : Memref sig .tc .vmem S64x768 .bf16 :=
  (A8.slice (slotRect b k) (fun _ => rfl)).squeeze S64x768 squeezes_S1x1x64x768_S64x768
/-- Slot `(b, k)` of the all-gather buffer. -/
abbrev agSlot (b : Fin 2) (k : Fin 8) : Memref sig .tc .vmem S64x768 .bf16 :=
  (A9.slice (slotRect b k) (fun _ => rfl)).squeeze S64x768 squeezes_S1x1x64x768_S64x768
/-- Plane `b` of the reduced buffer. -/
abbrev redPlane (b : Fin 2) : Memref sig .tc .vmem S64x768 .bf16 :=
  (A10.slice (planeRect b) (fun _ => rfl)).squeeze S64x768 squeezes_S1x64x768_S64x768
/-- Chunk `(b, k)` of the staged partial product. -/
abbrev pstChunk (b : Fin 2) (k : Fin 8) : Memref sig .tc .vmem S64x768 .bf16 := A6.slice (chunkRect b k) (fun _ => rfl)

/-- Rows `64k .. 64k+63` of a partial product. -/
def chunk (k : Fin 8) (X : Vec F S512x768 .bf16) : Vec F S64x768 .bf16 := fun j => X ((partRect k).emb j)

/-- A chunk has as many elements as a slot. -/
theorem casts_up : S64x768.ShapeCasts S1x1x64x768 := by decide
/-- What a load of a slot reads: the slot's contents with two unit axes. -/
def slotUp (X : Vec F S64x768 .bf16) : Vec F S1x1x64x768 .bf16 := shapeCast S1x1x64x768 X casts_up

/-- The sum of the eight chunks that reach one device, in the kernel's own order and roundings. -/
def redOf (X : Fin 8 → Vec F S64x768 .bf16) : Vec F S64x768 .bf16 :=
  k0_pay49 (k0_pay47 (k0_pay46 (k0_pay45 (slotUp (X 0))) (slotUp (X 1)) (slotUp (X 2))) (slotUp (X 3)) (slotUp (X 4)))
    (k0_pay48 (slotUp (X 5))) (slotUp (X 6)) (slotUp (X 7))

/-! ## Cells -/

/-- The barrier cell of device `c`. -/
abbrev barCell (c : Dev nD) : GSem nD τ sig := ((c : Thread nD τ), .reg barrier0)

/-- DMA semaphore `(b, k)` of family `f`. -/
def dsem (f : Fin 4) (b : Fin 2) (k : Fin 8) : DmaSem sig := ⟨6 + 16 * f.val + 8 * b.val + k.val, by
  show _ < 70; omega⟩
/-- A copy's semaphore cell of a device: family, batch and number. -/
abbrev dcell (c : Dev nD) (f : Fin 4) (b : Fin 2) (k : Fin 8) : GSem nD τ sig := ((c : Thread nD τ), .dma (dsem f b k))

/-- The credit of one copy. -/
abbrev N : ℕ := (rsSlot 0 0).view.dmaCredit
/-- A chunk has bytes. -/
theorem N_pos : 0 < N := View.dmaCredit_pos _ (by decide)

/-- Whether a DMA semaphore is the protocol's: the first six are the pipeline's. -/
def isTalk (n : DmaSem sig) : Bool := decide (6 ≤ n.val)
/-- The family of a copy's semaphore. -/
def famOf (n : DmaSem sig) : ℕ := (n.val - 6) / 16
/-- The batch of a copy's semaphore. -/
def halfOf (n : DmaSem sig) : Fin 2 := ⟨(n.val - 6) % 16 / 8, by omega⟩
/-- The number of a copy's semaphore. -/
def idxOf (n : DmaSem sig) : Fin 8 := ⟨(n.val - 6) % 8, by omega⟩

/-- The copies' semaphores belong to the protocol. -/
theorem isTalk_dsem (f : Fin 4) (b : Fin 2) (k : Fin 8) : isTalk (dsem f b k) = true := by
  unfold isTalk dsem; simp only [decide_eq_true_eq]; omega
/-- The family is read back. -/
theorem famOf_dsem (f : Fin 4) (b : Fin 2) (k : Fin 8) : famOf (dsem f b k) = f.val := by
  unfold famOf dsem; simp only; omega
/-- The batch is read back. -/
theorem halfOf_dsem (f : Fin 4) (b : Fin 2) (k : Fin 8) : halfOf (dsem f b k) = b := by
  unfold halfOf dsem; ext; simp only; omega
/-- The number is read back. -/
theorem idxOf_dsem (f : Fin 4) (b : Fin 2) (k : Fin 8) : idxOf (dsem f b k) = k := by
  unfold idxOf dsem; ext; simp only; omega
/-- Family, batch and number name a semaphore once. -/
theorem dsem_inj {f f' : Fin 4} {b b' : Fin 2} {k k' : Fin 8} (h : dsem f b k = dsem f' b' k') : f = f' ∧ b = b' ∧ k = k' := by
  have h' : 6 + 16 * f.val + 8 * b.val + k.val = 6 + 16 * f'.val + 8 * b'.val + k'.val := congrArg Fin.val h
  refine ⟨Fin.ext ?_, Fin.ext ?_, Fin.ext ?_⟩ <;> omega

/-! ## Contents and payloads -/

section Sched

variable (P : Dev nD → Fin 2 → Vec F S512x768 .bf16)

/-- The reduced block of device `c`: the sum over the devices of their chunk `c`. -/
def red (c : Dev nD) (b : Fin 2) : Vec F S64x768 .bf16 := redOf fun p => chunk c (P p b)

/-- The share of a reduced plane that the copy to the device `d` places on reads. -/
def rshare (d : Fin 8) : PosShare TreeShare := Transfers.shareTok fullShare 8 d

/-- What device `p` hands device `c` at the barrier. -/
def give (c p : Dev nD) : sProp 𝕄 :=
  bigSep Finset.univ fun b : Fin 2 =>
    iprop(((∃ X, owns (p : Thread nD τ) (rsSlot b c) fullShare X) ∗ reached (ER (F := F)) (dcell p 1 b c) 0)
      ∗ ((∃ X, owns (p : Thread nD τ) (agSlot b c) fullShare X) ∗ reached (ER (F := F)) (dcell p 3 b c) 0))

/-- What a copy's completion hands over. -/
def pay (c : Dev nD) (f : ℕ) (b : Fin 2) (k : Fin 8) : sProp 𝕄 :=
  if f = 0 then owns (c : Thread nD τ) (pstChunk b k) fullShare (chunk k (P c b))
  else if f = 1 then owns (c : Thread nD τ) (rsSlot b k) fullShare (chunk c (P k b))
  else if f = 2 then owns (c : Thread nD τ) (redPlane b) (rshare k) (red P c b)
  else owns (c : Thread nD τ) (agSlot b k) fullShare (red P k b)

instance give_storable (c p : Dev nD) : BI.Storable (upEmb : UEmb _ 𝕄) (give (F := F) c p) := by
  unfold give; infer_instance
instance pay_storable (c : Dev nD) (f : ℕ) (b : Fin 2) (k : Fin 8) : BI.Storable (upEmb : UEmb _ 𝕄) (pay P c f b k) := by
  unfold pay; (repeat' split) <;> infer_instance

/-- The payload of a cell of device `c`. -/
def payload (c : Dev nD) (s : SemLoc sig) (d : Duty) : sProp 𝕄 :=
  match s with
  | .reg _ => give c d
  | .dma n => pay P c (famOf n) (halfOf n) (idxOf n)

/-- Who pays at a cell: the seven peers at the barrier, one at a copy's. -/
def dutiesOf (c : Dev nD) (s : SemLoc sig) : Finset Duty :=
  match s with
  | .reg _ => Finset.univ.erase c
  | .dma n => if isTalk n = true then {0} else ∅

/-- How much a duty pays: one signal, or one chunk's bytes. -/
def amountOf (s : SemLoc sig) : ℕ :=
  match s with
  | .reg _ => 1
  | .dma _ => N

/-- The protocol: one round on every cell. -/
def Rd : Rounds.Schedule (GSem nD τ sig) Duty 𝕄 where
  duties g r := if r = 0 ∧ g.1.2 = .tc then dutiesOf g.1.1 g.2 else ∅
  unitless _ := False
  amount g _ _ := amountOf g.2
  payload g _ d := payload P g.1.1 g.2 d
  amount_pos g _ _ _ := by
    rcases g with ⟨c, s | n⟩
    · exact Nat.one_pos
    · exact N_pos

instance Rd_payload_storable (g : GSem nD τ sig) (r : ℕ) (d : Duty) :
    BI.Storable (upEmb : UEmb _ 𝕄) ((Rd (F := F) P).payload g r d) := by
  rcases g with ⟨c, s | n⟩
  · show BI.Storable upEmb (give c.1 d); infer_instance
  · show BI.Storable upEmb (pay P c.1 (famOf n) (halfOf n) (idxOf n)); infer_instance

variable (c : Dev nD) (f : Fin 4) (b : Fin 2) (k : Fin 8)

/-- At the barrier every other device pays. -/
theorem duties_bar : (Rd (F := F) P).duties (barCell c) 0 = Finset.univ.erase c := by
  dsimp only [Rd]; rw [if_pos ⟨rfl, rfl⟩]; rfl
/-- At a copy's cell one duty pays. -/
theorem duties_dma : (Rd (F := F) P).duties (dcell c f b k) 0 = {0} := by
  dsimp only [Rd]; rw [if_pos ⟨rfl, rfl⟩]; show (if isTalk (dsem f b k) = true then ({0} : Finset Duty) else ∅) = _
  rw [if_pos (isTalk_dsem f b k)]
/-- After the first round nobody pays. -/
theorem duties_later (g : GSem nD τ sig) : ∀ r, 1 ≤ r → (Rd (F := F) P).duties g r = ∅ :=
  fun r hr => by dsimp only [Rd]; rw [if_neg (fun h => by omega)]

/-- A peer pays one signal. -/
theorem amount_bar (d : Duty) : (Rd (F := F) P).amount (barCell c) 0 d = 1 := rfl
/-- A copy pays one chunk's bytes. -/
theorem amount_dma (d : Duty) : (Rd (F := F) P).amount (dcell c f b k) 0 d = N := rfl

/-- The barrier expects seven. -/
theorem expect_bar : (Rd (F := F) P).expect (barCell c) 0 = 7 := by
  unfold Schedule.expect Schedule.amountOf
  rw [duties_bar, Finset.sum_congr rfl (fun d _ => amount_bar P c d), Finset.sum_const, Finset.card_erase_of_mem (Finset.mem_univ _)]
  rfl
/-- A copy's cell expects one chunk's bytes. -/
theorem expect_dma : (Rd (F := F) P).expect (dcell c f b k) 0 = N := by
  unfold Schedule.expect Schedule.amountOf; rw [duties_dma, Finset.sum_singleton, amount_dma]

/-- A peer's signal hands over its slots for this device. -/
theorem payload_bar (d : Duty) : (Rd (F := F) P).payload (barCell c) 0 d = give c d := rfl
/-- A copy's landing hands over its family's payload. -/
theorem payload_dma (d : Duty) : (Rd (F := F) P).payload (dcell c f b k) 0 d = pay P c f.val b k := by
  show pay P c (famOf (dsem f b k)) (halfOf (dsem f b k)) (idxOf (dsem f b k)) = _
  rw [famOf_dsem, halfOf_dsem, idxOf_dsem]

/-- All that comes in with the wait on the barrier. -/
theorem rest_bar : bigSep ((Rd (F := F) P).duties (barCell c) 0 \ ∅) (fun d => (Rd (F := F) P).payload (barCell c) 0 d)
    = bigSep (Finset.univ.erase c) fun d => give c d := by
  rw [Finset.sdiff_empty, duties_bar]; rfl
/-- All that comes in with the wait on a copy's cell. -/
theorem rest_dma : bigSep ((Rd (F := F) P).duties (dcell c f b k) 0 \ ∅) (fun d => (Rd (F := F) P).payload (dcell c f b k) 0 d)
    = pay P c f.val b k := by
  rw [Finset.sdiff_empty, duties_dma, bigSep_singleton, payload_dma]

/-- A reduce-scatter's send hands back the chunk that it read. -/
theorem pay_0 : pay P c (0 : Fin 4).val b k = owns (c : Thread nD τ) (pstChunk b k) fullShare (chunk k (P c b)) := rfl
/-- A reduce-scatter's landing hands over the slot with the sender's chunk. -/
theorem pay_1 : pay P c (1 : Fin 4).val b k = owns (c : Thread nD τ) (rsSlot b k) fullShare (chunk c (P k b)) := rfl
/-- An all-gather's send hands back the share of the reduced chunk that it read. -/
theorem pay_2 : pay P c (2 : Fin 4).val b k = owns (c : Thread nD τ) (redPlane b) (rshare k) (red P c b) := rfl
/-- An all-gather's landing hands over the slot with the sender's reduced chunk. -/
theorem pay_3 : pay P c (3 : Fin 4).val b k = owns (c : Thread nD τ) (agSlot b k) fullShare (red P k b) := rfl

end Sched

/-! ## Levels, and what each device owes -/

/-- The cells that carry a level: those of the cores. -/
def L (g : GSem nD τ sig) : Finset Unit := if g.1.2 = .tc then {()} else ∅

/-- Barrier cells at 1, reduce-scatter receive cells at 2, all-gather receive cells at 3, the rest at 0. -/
def lvOf (s : SemLoc sig) : ℕ :=
  match s with
  | .reg _ => 1
  | .dma n => if isTalk n = true then (if famOf n = 1 then 2 else if famOf n = 3 then 3 else 0) else 0
/-- The level of a cell. -/
def lv (g : GSem nD τ sig) (_ : Unit) : ℕ := lvOf g.2

/-- The barrier's level. -/
theorem lv_bar (c : Dev nD) : lv (barCell c) () = 1 := rfl
/-- The copies' levels: the landings of the reduce-scatter below those of the all-gather. -/
theorem lv_dma (c : Dev nD) (f : Fin 4) (b : Fin 2) (k : Fin 8) :
    lv (dcell c f b k) () = if f.val = 1 then 2 else if f.val = 3 then 3 else 0 := by
  show (if isTalk (dsem f b k) = true then _ else _) = _
  rw [if_pos (isTalk_dsem f b k), famOf_dsem]

/-- Elsewhere no cell carries a level. -/
theorem L_of_ne (g : GSem nD τ sig) (h : g.1.2 ≠ .tc) : L g = ∅ := if_neg h
/-- The cores' cells carry a level. -/
theorem L_tc (c : Dev nD) (sm : SemLoc sig) : L ((c : Thread nD τ), sm) = {()} := if_pos rfl

/-- The device `d` places on from `c`. -/
def pe (c : Dev nD) (d : Fin 8) : Dev nD := ⟨(c.val + d.val) % 8, Nat.mod_lt _ (by decide)⟩

/-- The members of `Fin n` from `j` on, and those before `j`. -/
def from' (n j : ℕ) : Finset (Fin n) := Finset.univ.filter fun k => j ≤ k.val
/-- The numbers below j. -/
def upto (n j : ℕ) : Finset (Fin n) := Finset.univ.filter fun k => k.val < j

/-- From zero on are all. -/
theorem from'_zero (n : ℕ) : from' n 0 = Finset.univ := by ext k; simp [from']
/-- From the end on is none. -/
theorem from'_top (n : ℕ) : from' n n = ∅ := by
  ext k; simp only [from', Finset.mem_filter, Finset.mem_univ, true_and, Finset.notMem_empty, iff_false]; omega
/-- Below zero is none. -/
theorem upto_zero (n : ℕ) : upto n 0 = ∅ := by ext k; simp [upto]
/-- Below the end are all. -/
theorem upto_top (n : ℕ) : upto n n = Finset.univ := by ext k; simp [upto]
/-- From j on is j and those after it. -/
theorem from'_insert {n : ℕ} (j : Fin n) : from' n j.val = insert j (from' n (j.val + 1)) := by
  ext k; simp only [from', Finset.mem_filter, Finset.mem_univ, true_and, Finset.mem_insert, Fin.ext_iff]; omega
/-- Below j + 1 is j and those before it. -/
theorem upto_insert {n : ℕ} (j : Fin n) : upto n (j.val + 1) = insert j (upto n j.val) := by
  ext k; simp only [upto, Finset.mem_filter, Finset.mem_univ, true_and, Finset.mem_insert, Fin.ext_iff]; omega
/-- j is not after itself. -/
theorem notMem_from' {n : ℕ} (j : Fin n) : j ∉ from' n (j.val + 1) := by
  simp only [from', Finset.mem_filter, Finset.mem_univ, true_and]; omega
/-- j is not before itself. -/
theorem notMem_upto {n : ℕ} (j : Fin n) : j ∉ upto n j.val := by
  simp only [upto, Finset.mem_filter, Finset.mem_univ, true_and]; omega

/-- The barrier units still owed, the `j` first paid. -/
def obar (c : Dev nD) (j : ℕ) : CellTallies nD τ sig Unit := ∑ i ∈ from' 7 j, tallyAt (barCell (pe c i.succ)) () 1
/-- The reduce-scatter copies of half `b` still owed. -/
def ors (c : Dev nD) (b : Fin 2) (j : ℕ) : CellTallies nD τ sig Unit := ∑ k ∈ from' 8 j, tallyAt (dcell k 1 b c) () N
/-- The all-gather copies of half `b` still owed. -/
def oag (c : Dev nD) (b : Fin 2) (j : ℕ) : CellTallies nD τ sig Unit := ∑ d ∈ from' 8 j, tallyAt (dcell (pe c d) 3 b c) () N

/-- The debt at the barriers loses the next signal. -/
theorem obar_step (c : Dev nD) (j : Fin 7) : obar c j.val = obar c (j.val + 1) + tallyAt (barCell (pe c j.succ)) () 1 := by
  unfold obar; rw [from'_insert, Finset.sum_insert (notMem_from' j), add_comm]
/-- The reduce-scatter's debt loses the next copy. -/
theorem ors_step (c : Dev nD) (b : Fin 2) (j : Fin 8) : ors c b j.val = ors c b (j.val + 1) + tallyAt (dcell j 1 b c) () N := by
  unfold ors; rw [from'_insert, Finset.sum_insert (notMem_from' j), add_comm]
/-- The all-gather's debt loses the next copy. -/
theorem oag_step (c : Dev nD) (b : Fin 2) (j : Fin 8) : oag c b j.val = oag c b (j.val + 1) + tallyAt (dcell (pe c j) 3 b c) () N := by
  unfold oag; rw [from'_insert, Finset.sum_insert (notMem_from' j), add_comm]
/-- After seven signals the barriers are paid. -/
theorem obar_top (c : Dev nD) : obar c 7 = 0 := by unfold obar; rw [from'_top, Finset.sum_empty]
/-- After eight copies the reduce-scatter of a batch is paid. -/
theorem ors_top (c : Dev nD) (b : Fin 2) : ors c b 8 = 0 := by unfold ors; rw [from'_top, Finset.sum_empty]
/-- After eight copies the all-gather of a batch is paid. -/
theorem oag_top (c : Dev nD) (b : Fin 2) : oag c b 8 = 0 := by unfold oag; rw [from'_top, Finset.sum_empty]

/-- What remains owed once the barrier's units are paid; once the reduce-scatter copies of half 0 are; of half 1. -/
def O1 (c : Dev nD) : CellTallies nD τ sig Unit := oag c 0 0 + oag c 1 0
/-- What a device owes at the start. -/
def O₀ (c : Dev nD) : CellTallies nD τ sig Unit := obar c 0 + (ors c 0 0 + (ors c 1 0 + O1 c))

/-- All that is owed lies on TensorCores' cells above level `n`. -/
def Above (n : ℕ) (O : CellTallies nD τ sig Unit) : Prop := ∀ g u, 0 < O g u → g.1.2 = .tc ∧ n < lv g u

/-- Nothing owed is above every level. -/
theorem above_zero (n : ℕ) : Above n 0 := fun g u h => absurd h (Nat.lt_irrefl 0)
/-- Two debts above a level are so together. -/
theorem above_add {n : ℕ} {O O' : CellTallies nD τ sig Unit} (h : Above n O) (h' : Above n O') : Above n (O + O') := fun g u hg => by
  have : 0 < O g u + O' g u := hg
  rcases Nat.eq_zero_or_pos (O g u) with h0 | h0
  · exact h' g u (by omega)
  · exact h g u h0
/-- One cell's debt is above a level below its own. -/
theorem above_tally (n : ℕ) (c : Dev nD) (s : SemLoc sig) (m : ℕ) (h : n < lvOf s) : Above n (tallyAt ((c : Thread nD τ), s) () m) := fun g u hg => by
  rw [tallyAt_apply] at hg
  by_cases hh : g = ((c : Thread nD τ), s) ∧ u = ()
  · rw [hh.1]; exact ⟨rfl, h⟩
  · rw [if_neg hh] at hg; exact absurd hg (Nat.lt_irrefl 0)
/-- Debts above a level are so in sum. -/
theorem above_sum {ι : Type} (n : ℕ) (s : Finset ι) (T : ι → CellTallies nD τ sig Unit) (h : ∀ i, Above n (T i)) : Above n (∑ i ∈ s, T i) := by
  classical
  induction s using Finset.induction_on with
  | empty => rw [Finset.sum_empty]; exact above_zero n
  | insert i s hi ih => rw [Finset.sum_insert hi]; exact above_add (h i) ih
/-- The barriers' debt is above level zero. -/
theorem above_obar (c : Dev nD) (j : ℕ) : Above 0 (obar c j) := above_sum _ _ _ fun i => above_tally _ _ _ _ (by decide)
/-- The reduce-scatter's debt is above level one. -/
theorem above_ors (c : Dev nD) (b : Fin 2) (j : ℕ) : Above 1 (ors c b j) := above_sum _ _ _ fun i => above_tally _ _ _ _ (by
  have := lv_dma c 1 b c; show 1 < lv (dcell c 1 b c) (); rw [this]; decide)
/-- The all-gather's debt is above level two. -/
theorem above_oag (c : Dev nD) (b : Fin 2) (j : ℕ) : Above 2 (oag c b j) := above_sum _ _ _ fun i => above_tally _ _ _ _ (by
  have := lv_dma c 3 b c; show 2 < lv (dcell c 3 b c) (); rw [this]; decide)
/-- Above a level is above every lower one. -/
theorem Above.mono {n m : ℕ} (hnm : m ≤ n) {O : CellTallies nD τ sig Unit} (h : Above n O) : Above m O :=
  fun g u hg => ⟨(h g u hg).1, lt_of_le_of_lt hnm (h g u hg).2⟩

/-- What is owed after the reduce-scatter is above level two. -/
theorem above_O1 (c : Dev nD) : Above 2 (O1 c) := above_add (above_oag c 0 0) (above_oag c 1 0)
/-- What is owed at the start is above level zero. -/
theorem above_O₀ (c : Dev nD) : Above 0 (O₀ c) :=
  above_add (above_obar c 0) (above_add ((above_ors c 0 0).mono (by decide)) (above_add ((above_ors c 1 0).mono (by decide)) ((above_O1 c).mono (by decide))))

/-- A wait at a cell of level at most `n` while all that is owed lies above `n`. -/
theorem mayWait {n : ℕ} (c : Dev nD) (s : SemLoc sig) (hs : lvOf s ≤ n) {O : CellTallies nD τ sig Unit} (hO : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Talk
-- ==== Proof.Mem.lean ====
/-
  Memory lemmas the run uses: a squeezed slice owned is the slice owned at the recast contents; a slice of a slice; a
  memref's shares dealt to several readers; loads and stores through owned slices.
-/
module

public import proofs.«01_k».proof.Proof.Protocol

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel has no loop variants. -/
abbrev 𝒱₀ : Variants := Variants.none

/-- A family over an enlarged set, the new member first. -/
theorem bigSep_ins {ι : Type} [DecidableEq ι] {i : ι} {s : Finset ι} (h : i ∉ s) (Φ : ι → sProp 𝕄) :
    bigSep (insert i s) Φ = iprop(Φ i ∗ bigSep s Φ) := bigSep_insert h

/-- One member of a family, the rest dropped. -/
theorem bigSep_at {ι : Type} [DecidableEq ι] {i : ι} {s : Finset ι} (h : i ∈ s) (Φ : ι → sProp 𝕄) :
    bigSep s Φ ⊢ (Φ i : sProp 𝕄) := bigSep_elim h

section Views

variable (c : Thread nD τ) {sp : Space} {s s' : Shape} {e : EltTy} (m : Memref sig c.2.kind sp s e) (q : PosShare TreeShare)

/-- A squeezed memref owned at recast contents is the memref owned. -/
theorem owns_squeeze (h : s.Squeezes s') (hc : s.ShapeCasts s') (X : s.Idx → Elt F e) :
    (owns c (m.squeeze s' h) q (shapeCast s' X hc) : sProp 𝕄) = owns c m q X := by
  have key : ∀ f : m.view.ty.Contents (Elt F), (m.squeeze s' h).view.read (Elt F) f = shapeCast s' X hc ↔ m.view.read (Elt F) f = X := fun f => by
    constructor
    · intro hh; funext i
      have := congrFun hh ((Shape.reshapeEquiv h.numel_eq).symm i)
      have h2 : (m.squeeze s' h).view.read (Elt F) f ((Shape.reshapeEquiv h.numel_eq).symm i) = m.view.read (Elt F) f i := by
        show m.view.read (Elt F) f (Shape.reshapeEquiv h.numel_eq ((Shape.reshapeEquiv h.numel_eq).symm i)) = _
        rw [Equiv.apply_symm_apply]
      rw [h2] at this; rw [this]; show X (Shape.reshapeEquiv _ _) = X i
      congr 1; exact Equiv.apply_symm_apply _ i
    · intro hh; rw [← hh]; rfl
  have hset : (m.squeeze s' h).view.set = m.view.set := View.set_reshape (v := m.view) h.numel_eq
  have h1 : (owns c (m.squeeze s' h) q (shapeCast s' X hc) : sProp 𝕄) ⊢ owns c m q X := by
    unfold owns
    iintro ⟨%f, %hf, H⟩
    iexists f
    isplitr
    · ipureintro; exact (key f).mp hf
    rw [← hset]; iexact H
  have h2 : (owns c m q X : sProp 𝕄) ⊢ owns c (m.squeeze s' h) q (shapeCast s' X hc) := by
    unfold owns
    iintro ⟨%f, %hf, H⟩
    iexists f
    isplitr
    · ipureintro; exact (key f).mpr hf
    rw [hset]; iexact H
  exact BI.Entails.antisymm h1 h2

/-- A memref owned at one share, dealt to `n` readers and a remainder. -/
theorem owns_toks (n : ℕ) (X : s.Idx → Elt F e) :
    (owns c m q X : sProp 𝕄) ⊣⊢ iprop(owns c m (Transfers.shareDrop q n) X
      ∗ bigSep (Finset.range n) fun i => owns c m (Transfers.shareTokN q i) X) := by
  induction n with
  | zero =>
    rw [Finset.range_zero, bigSep_empty]
    exact ⟨by iintro H; isplitl [H]; · iexact H
              iempintro, by iintro ⟨H, -⟩; iexact H⟩
  | succ n ih =>
    rw [Finset.range_add_one, bigSep_ins Finset.notMem_range_self]
    have hh := owns_halves (U := UU) (Ix := Unit) (Name := ℕ) (Lvl := ℕ) c m (Transfers.shareDrop q n) X
    constructor
    · refine ih.1.trans ?_
      iintro ⟨H, Hs⟩
      ihave H' := hh.1 $$ H
      icases H' with ⟨Hl, Hr⟩
      isplitl [Hl]; · iexact Hl
      isplitl [Hr]; · iexact Hr
      iexact Hs
    · refine (show _ ⊢ (iprop(owns c m (Transfers.shareDrop q n) X
        ∗ bigSep (Finset.range n) fun i => owns c m (Transfers.shareTokN q i) X) : sProp 𝕄) from ?_).trans ih.2
      iintro ⟨Hl, Hr, Hs⟩
      isplitl [Hl Hr]
      · iapply hh.2
        isplitl [Hl]; · iexact Hl
        iexact Hr
      · iexact Hs

end Views

section Steps

variable (c : Thread nD τ) {cs : CoreSpace} {s : Shape} {e : EltTy} (m : Memref sig c.2.kind cs s e) (q : PosShare TreeShare)
variable {α : Type}

/-- A load through a rectangle of an owned slice. -/
theorem wp_load_slice (r : Rect s) (hr : ∀ a, r.stride a = 1) (hl : m.view.LoadsAt r.toLoadRect) (X : r.shape.Idx → Elt F e)
    {k : (r.shape.Idx → Elt F e) → Prog (TpuEff nD τ sig (Elt F) Λ₀ c.2) α} {Q : α → sProp 𝕄} :
    (owns c (m.slice r hr) q X : sProp 𝕄)
      ⊢ iprop((owns c (m.slice r hr) q X -∗ wp frame (wpE (defs₀ (F := F)) 𝒱₀ c none) Set.univ (k X) Q)
        -∗ wp frame (wpE (defs₀ (F := F)) 𝒱₀ c none) Set.univ (.op (.load m r.toLoadRect hl) k) Q) := by
  unfold owns
  iintro ⟨%f, %hf, H⟩ Hk
  iapply (wp_load_rect 𝒱₀ c none Set.univ (S := (m.view.slice r).set) (f := f) (Finset.Subset.refl _)) $$ [H]
  · iexact H
  iintro H
  rw [show (m.access r).read (Elt F) f = X from hf]
  iapply Hk
  iexists f
  isplitr; · ipureintro; exact hf
  iexact H

/-- A load through a rectangle of a memref owned whole. -/
theorem wp_load_at (r : Rect s) (hl : m.view.LoadsAt r.toLoadRect) (X : s.Idx → Elt F e)
    {k : (r.shape.Idx → Elt F e) → Prog (TpuEff nD τ sig (Elt F) Λ₀ c.2) α} {Q : α → sProp 𝕄} :
    (owns c m q X : sProp 𝕄)
      ⊢ iprop((owns c m q X -∗ wp frame (wpE (defs₀ (F := F)) 𝒱₀ c none) Set.univ (k fun j => X (r.emb j)) Q)
        -∗ wp frame (wpE (defs₀ (F := F)) 𝒱₀ c none) Set.univ (.op (.load m r.toLoadRect hl) k) Q) := by
  unfold owns
  iintro ⟨%f, %hf, H⟩ Hk
  iapply (wp_load_rect 𝒱₀ c none Set.univ (S := m.view.set) (f := f) (View.set_slice_subset _ _)) $$ [H]
  · iexact H
  iintro H
  rw [show (m.access r).read (Elt F) f = (fun j => X (r.emb j)) from by rw [← hf]; rfl]
  iapply Hk
  iexists f
  isplitr; · ipureintro; exact hf
  iexact H

/-- A store through a rectangle of an owned slice. -/
theorem wp_store_slice (r : Rect s) (hr : ∀ a, r.stride a = 1) (X w : r.shape.Idx → Elt F e)
    (hx : (m.access r).Stores Finset.univ) (hm : (Finset.univ : Finset r.shape.Idx) = Finset.univ ∨ ∀ a, r.stride a = 1)
    {k : PUnit → Prog (TpuEff nD τ sig (Elt F) Λ₀ c.2) α} {Q : α → sProp 𝕄} :
    (owns c (m.slice r hr) fullShare X : sProp 𝕄)
      ⊢ iprop((owns c (m.slice r hr) fullShare w -∗ wp frame (wpE (defs₀ (F := F)) 𝒱₀ c none) Set.univ (k ⟨⟩) Q)
        -∗ wp frame (wpE (defs₀ (F := F)) 𝒱₀ c none) Set.univ (.op (.store m r w Finset.univ hx hm) k) Q) := by
  unfold owns
  iintro ⟨%f, %hf, H⟩ Hk
  iapply (wp_store 𝒱₀ c none Set.univ (m := m) (r := r) (S := (m.view.slice r).set) (f := f) (View.setOn_subset_set _ _)) $$ [H]
  · iexact H
  iintro H
  iapply Hk
  iexists (m.access r).write (Elt F) f w Finset.univ
  isplitr; · ipureintro; exact View.read_write_univ _ _
  iexact H

end Steps

end Cert.KernelIdeal.Talk
-- ==== Proof.Steps.lean ====
/-
  One step of the protocol at a time: a barrier signal, the barrier wait, a copy to a peer, a wait for a copy.
-/
module

public import proofs.«01_k».proof.Proof.Mem

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Fin 2 → Vec F S512x768 .bf16) (K : GSem nD τ sig → ℕ)

/-- The index of a DMA cell: family, half, number. -/
abbrev CIx : Type := Fin 4 × Fin 2 × Fin 8
/-- A copy's cell, by family, batch and number together. -/
abbrev cellAt (c : Dev nD) (x : CIx) : GSem nD τ sig := dcell c x.1 x.2.1 x.2.2

/-- Every cell's invariant, at the names `K`. -/
def invs : sProp 𝕄 :=
  iprop(bigSep (Finset.univ : Finset (Dev nD)) (fun d => cellInv (ER (F := F)) (Rd P) (K (barCell d)) (barCell d))
    ∗ bigSep (Finset.univ : Finset (Dev nD × CIx)) (fun x => cellInv (ER (F := F)) (Rd P) (K (cellAt x.1 x.2)) (cellAt x.1 x.2)))

/-- What device `c` knows throughout the run. -/
def recs (c : Dev nD) : sProp 𝕄 :=
  iprop(invs P K ∗ levAts L lv ∗ bigSep (Finset.univ : Finset (Dev nD)) (fun d => reached (ER (F := F)) (barCell d) 0)
    ∗ bigSep (Finset.univ : Finset CIx) (fun x => reached (ER (F := F)) (cellAt c x) 0))

instance invs_persistent : BI.Persistent (invs P K) := by unfold invs; infer_instance
instance recs_persistent (c : Dev nD) : BI.Persistent (recs P K c) := by unfold recs; infer_instance

variable (c : Dev nD)

/-- The records hold each barrier's invariant. -/
theorem recs_inv_bar (d : Dev nD) : recs P K c ⊢ cellInv (ER (F := F)) (Rd P) (K (barCell d)) (barCell d) := by
  unfold recs invs; iintro ⟨⟨H, -⟩, -⟩
  iapply (bigSep_at (Finset.mem_univ d) (fun d => cellInv (ER (F := F)) (Rd P) (K (barCell d)) (barCell d))); iexact H
/-- The records hold each copy cell's invariant. -/
theorem recs_inv_dma (d : Dev nD) (f : Fin 4) (b : Fin 2) (k : Fin 8) :
    recs P K c ⊢ cellInv (ER (F := F)) (Rd P) (K (dcell d f b k)) (dcell d f b k) := by
  unfold recs invs; iintro ⟨⟨-, H⟩, -⟩
  iapply (bigSep_at (Finset.mem_univ (d, f, b, k)) (fun x : Dev nD × CIx => cellInv (ER (F := F)) (Rd P) (K (cellAt x.1 x.2)) (cellAt x.1 x.2))); iexact H
/-- The records hold the levels. -/
theorem recs_lev : recs P K c ⊢ (levAts L lv : sProp 𝕄) := by
  unfold recs; iintro ⟨-, H, -⟩; iexact H
/-- The records hold that each barrier is in its first round. -/
theorem recs_bar (d : Dev nD) : recs P K c ⊢ (reached (ER (F := F)) (barCell d) 0) := by
  unfold recs; iintro ⟨-, -, H, -⟩
  iapply (bigSep_at (Finset.mem_univ d) (fun d => reached (ER (F := F)) (barCell d) 0)); iexact H
/-- The records hold that each of the device's copy cells is in its first round. -/
theorem recs_dma (f : Fin 4) (b : Fin 2) (k : Fin 8) : recs P K c ⊢ (reached (ER (F := F)) (dcell c f b k) 0) := by
  unfold recs; iintro ⟨-, -, -, H⟩
  iapply (bigSep_at (Finset.mem_univ (f, b, k)) (fun x : CIx => reached (ER (F := F)) (cellAt c x) 0)); iexact H

/-- What device `c` owes, whatever it has waited for. -/
def ow (O : CellTallies nD τ sig Unit) : sProp 𝕄 := iprop(∃ W, owes (c : Thread nD τ) O W)

variable {α : Type}

/-- A barrier signal to `d`: hands over what `c` gives `d`. -/
theorem wp_bar_signal (d : Dev nD) (hcd : c ≠ d) (O : CellTallies nD τ sig Unit) {O' : CellTallies nD τ sig Unit}
    (hO : O' = O + tallyAt (barCell d) () 1) (d' : Dev nD) (hd : d' = d) (s : Sem sig) (hs : s = barrier0)
    {k : PUnit → Prog (TpuEff nD τ sig (Elt F) Λ₀ .tc) α} {Q : α → sProp 𝕄} :
    iprop(recs P K c ∗ ow (F := F) c O' ∗ dutyTok (ER (F := F)) (barCell d) 0 c ∗ give d c)
      ⊢ iprop((ow c O -∗ wp frame (wpE (defs₀ (F := F)) 𝒱₀ (c : Thread nD τ) none) Set.univ (k ⟨⟩) Q) -∗ wp frame (wpE (defs₀ (F := F)) 𝒱₀ (c : Thread nD τ) none) Set.univ (semSignalWord d' s 1#32 >>= k) Q) := by
  subst hd; subst hs
  unfold ow
  iintro ⟨#Hr, ⟨%W, HO⟩, Ht, Hg⟩ Hk
  iapply (Rounds.wp_signal 𝒱₀ (ER (F := F)) (Rd P) (c : Thread nD τ) none (dst := (d' : Thread nD τ)) (sem := barrier0) (r := 0) (d := c) (κ := K (barCell d'))
      (k' := 1) (k := k)
      (by rw [duties_bar]; exact Finset.mem_erase.mpr ⟨hcd, Finset.mem_univ _⟩) (amount_bar P d' c) () O hO) $$ [HO Ht Hg]
  · isplitr; · iapply (recs_inv_bar P K c d'); iexact Hr
    isplitl [HO]; · iexact HO
    isplitl [Ht]; · iexact Ht
    isplitl [Hg]; · rw [payload_bar]; iexact Hg
    iapply (recs_bar P K c d'); iexact Hr
  iintro HO
  iapply Hk
  iexists W; iexact HO

/-- The barrier wait: what every other device gives comes in. -/
theorem wp_bar_wait (O : CellTallies nD τ sig Unit) (hO : Above 1 O) (s : Sem sig) (hs : s = barrier0)
    {k : PUnit → Prog (TpuEff nD τ sig (Elt F) Λ₀ .tc) α} {Q : α → sProp 𝕄} :
    iprop(recs P K c ∗ ow (F := F) c O ∗ atPos (ER (F := F)) (barCell c) 0 ∅ 0 ∗ cred (tallyAt (barCell c) () 7))
      ⊢ iprop(((ow c O ∗ semVal (barCell c) 0 ∗ bigSep (Finset.univ.erase c) fun d => give c d) -∗ wp frame (wpE (defs₀ (F := F)) 𝒱₀ (c : Thread nD τ) none) Set.univ (k ⟨⟩) Q) -∗ wp frame (wpE (defs₀ (F := F)) 𝒱₀ (c : Thread nD τ) none) Set.univ (semWaitWord s 7#32 >>= k) Q) := by
  subst hs
  unfold ow
  iintro ⟨#Hr, ⟨%W, HO⟩, Hat, Hc⟩ Hk
  iapply (Rounds.wp_wait_rest_token 𝒱₀ (ER (F := F)) (Rd P) (c : Thread nD τ) none (κ := K (barCell c)) (k' := 7) (k := k)
      (wpE_semWait_eq 𝒱₀ (c : Thread nD τ) none Set.univ) (Set.mem_univ _) () (O := O) (W := W) (R := 0) (m := 0) (T := ∅)
      ((Nat.zero_add 7).trans (expect_bar P c).symm)) $$ [HO Hat Hc]
  · isplitr; · iapply (recs_inv_bar P K c c); iexact Hr
    isplitl [Hc]; · iexact Hc
    isplitl [HO]; · iexact HO
    isplitr; · iapply (mayWait c (.reg barrier0) (le_refl 1) hO); iapply (recs_lev P K c); iexact Hr
    iexact Hat
  iintro ⟨HO, Hat, -, Hpay⟩
  ihave Hp := (Entails.of_eq (rest_bar P c)) $$ Hpay
  imod (Rounds.cell_close (ER (F := F)) (Rd P) (Set.mem_univ (K (barCell c))) id (duties_later P (barCell c))) $$ [Hat] with Hv
  · isplitr; · iapply (recs_inv_bar P K c c); iexact Hr
    iexact Hat
  iapply Hk
  isplitl [HO]; · iexists _; iexact HO
  isplitl [Hv]; · iexact Hv
  iexact Hp

/-- A wait for the one round of a DMA cell: its payload, and its counter back at zero. -/
theorem wp_dma_wait (f : Fin 4) (b : Fin 2) (i : Fin 8) (n : ℕ) (hn : lvOf (.dma (dsem f b i)) ≤ n)
    (O : CellTallies nD τ sig Unit) (hO : Above n O) {sp sp' : Space} {s : Shape} {e : EltTy}
    {src : Memref sig .tc sp s e} {dst : Memref sig .tc sp' s e} {h₁ : src.view.WordExact} {h₂ : dst.view.WordExact}
    (S : DmaSem sig) (hS : S = dsem f b i) (hN : dst.view.dmaCredit = N)
    {k : PUnit → Prog (TpuEff nD τ sig (Elt F) Λ₀ .tc) α} {Q : α → sProp 𝕄} :
    iprop(recs P K c ∗ ow (F := F) c O ∗ atPos (ER (F := F)) (dcell c f b i) 0 ∅ 0 ∗ cred (tallyAt (dcell c f b i) () N))
      ⊢ iprop(((ow c O ∗ semVal (dcell c f b i) 0 ∗ pay P c f.val b i) -∗ wp frame (wpE (defs₀ (F := F)) 𝒱₀ (c : Thread nD τ) none) Set.univ (k ⟨⟩) Q) -∗ wp frame (wpE (defs₀ (F := F)) 𝒱₀ (c : Thread nD τ) none) Set.univ (Prog.lift (.waitDma2 S src dst h₁ h₂) >>= k) Q) := by
  subst hS
  unfold ow
  iintro ⟨#Hr, ⟨%W, HO⟩, Hat, Hc⟩ Hk
  iapply (Rounds.wp_wait_rest_token 𝒱₀ (ER (F := F)) (Rd P) (c : Thread nD τ) none (κ := K (dcell c f b i)) (k := k)
      (wpE_waitDma2_eq (src := src) (dst := dst) 𝒱₀ (c : Thread nD τ) none Set.univ) (Set.mem_univ _) () (O := O) (W := W) (R := 0) (m := 0) (T := ∅)
      (by rw [Nat.zero_add, expect_dma]; exact hN)) $$ [HO Hat Hc]
  · isplitr; · iapply (recs_inv_dma P K c c f b i); iexact Hr
    isplitl [Hc]; · rw [hN]; iexact Hc
    isplitl [HO]; · iexact HO
    isplitr; · iapply (mayWait c (.dma (dsem f b i)) hn hO); iapply (recs_lev P K c); iexact Hr
    iexact Hat
  iintro ⟨HO, Hat, -, Hpay⟩
  ihave Hp := (Entails.of_eq (rest_dma P c f b i)) $$ Hpay
  imod (Rounds.cell_close (ER (F := F)) (Rd P) (Set.mem_univ (K (dcell c f b i))) id (duties_later P (dcell c f b i))) $$ [Hat] with Hv
  · isplitr; · iapply (recs_inv_dma P K c c f b i); iexact Hr
    iexact Hat
  iapply Hk
  isplitl [HO]; · iexists _; iexact HO
  isplitl [Hv]; · iexact Hv
  iexact Hp

/-- A copy to device `d`: the source's share pays the own send cell, the slot written pays `d`'s receive cell. -/
theorem wp_copy_to (d : Dev nD) (f g : Fin 4) (b : Fin 2) (i j : Fin 8) (O : CellTallies nD τ sig Unit) {O' : CellTallies nD τ sig Unit}
    (hO : O' = O + tallyAt (dcell d g b j) () N) (src : Memref sig .tc .vmem S64x768 .bf16) (slot : Memref sig .tc .vmem S64x768 .bf16)
    (q : PosShare TreeShare) (X : Vec F S64x768 .bf16)
    (h₁ : owns (c : Thread nD τ) src q X = pay P c f.val b i) (h₂ : owns (d : Thread nD τ) slot fullShare X = pay P d g.val b j)
    (hN : slot.view.dmaCredit = N)
    (d' : Dev nD) (hd : d' = d) (dst : Memref sig .tc .vmem S64x768 .bf16) (hdst : dst = slot)
    (src' : Memref sig .tc .vmem S64x768 .bf16) (hsrc : src' = src)
    (S₁ S₂ : DmaSem sig) (hS₁ : S₁ = dsem f b i) (hS₂ : S₂ = dsem g b j)
    {hsc : dst.view.ref.isScScratch = false} {h₃ : src'.view.WordExact} {h₄ : dst.view.WordExact}
    {h₅ : DmaTarget.Typed .vmem (.dma S₂) (.remote (Dev.tc d' : Thread nD τ) dst (.dma S₁) hsc)}
    {k : PUnit → Prog (TpuEff nD τ sig (Elt F) Λ₀ .tc) α} {Q : α → sProp 𝕄} :
    iprop(recs P K c ∗ ow (F := F) c O' ∗ ((∃ Y, owns (d : Thread nD τ) slot fullShare Y) ∗ reached (ER (F := F)) (dcell d g b j) 0)
        ∗ dutyTok (ER (F := F)) (dcell d g b j) 0 0 ∗ dutyTok (ER (F := F)) (dcell c f b i) 0 0 ∗ owns (c : Thread nD τ) src q X)
      ⊢ iprop(((ow c O ∗ cred (tallyAt (dcell c f b i) () N)) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.enqueueDma src' (.remote (Dev.tc d') dst (.dma S₁) hsc) (.dma S₂) h₃ h₄ h₅) >>= k) Q) := by
  subst hd; subst hdst; subst hsrc; subst hS₁; subst hS₂
  unfold ow
  iintro ⟨#Hr, ⟨%W, HO⟩, ⟨⟨%Y, Hd⟩, #Hrd⟩, Ht₂, Ht₁, Hs⟩ Hk
  ihave Hs := (show owns (c : Thread nD τ) src' q X ⊢ (iprop(∃ fs, ⌜src'.view.read (Elt F) fs = X⌝ ∗ (src'.view.loc (c : Thread nD τ) ↦[src'.view.set]{q} fs)) : sProp 𝕄) from .rfl) $$ Hs
  ihave Hd := (show owns (d' : Thread nD τ) dst fullShare Y ⊢ (iprop(∃ fd, ⌜dst.view.read (Elt F) fd = Y⌝ ∗ (dst.view.loc (d' : Thread nD τ) ↦[dst.view.set]{fullShare} fd)) : sProp 𝕄) from .rfl) $$ Hd
  icases Hs with ⟨%fs, %hfs, Hs⟩
  icases Hd with ⟨%fd, %hfd, Hd⟩
  have hp₁ : (src'.view.loc (c : Thread nD τ) ↦[src'.view.set]{q} fs : sProp 𝕄) ⊢ (Rd P).payload (dcell c f b i) 0 0 := by
    rw [payload_dma, ← h₁, ← hfs]; exact owns_intro _ _ _ _
  have hp₂ : (dst.view.loc (d' : Thread nD τ) ↦[dst.view.set]{fullShare} (dst.view.write (Elt F) fd (src'.view.read (Elt F) fs) Finset.univ) : sProp 𝕄)
      ⊢ (Rd P).payload (dcell d' g b j) 0 0 := by
    rw [payload_dma, ← h₂, ← hfs]
    refine (owns_intro (d' : Thread nD τ) dst fullShare _).trans ?_
    rw [View.read_write_univ]
  iapply (Rounds.wp_send_pointsTo 𝒱₀ (ER (F := F)) (Rd P) (c : Thread nD τ) none (c' := (d' : Thread nD τ)) (src := src') (dst := dst)
      (sS := .dma (dsem f b i)) (sem := .dma (dsem g b j)) (q := q) (fs := fs) (fd := fd) (κ₁ := K (dcell c f b i)) (κ₂ := K (dcell d' g b j))
      (r₁ := 0) (r₂ := 0) (d₁ := 0) (d₂ := 0) (k := k)
      (by rw [duties_dma]; exact Finset.mem_singleton_self _) (by rw [duties_dma]; exact Finset.mem_singleton_self _)
      () () N hN (amount_dma P c f b i 0) (amount_dma P d' g b j 0) O hO (W := W)
      hp₁ hp₂) $$ [Hs Hd HO Ht₁ Ht₂]
  · isplitr; · iapply (recs_inv_dma P K c c f b i); iexact Hr
    isplitr; · iapply (recs_inv_dma P K c d' g b j); iexact Hr
    isplitl [Hs]; · iexact Hs
    isplitl [Hd]; · iexact Hd
    isplitl [HO]; · iexact HO
    isplitl [Ht₁]; · iexact Ht₁
    isplitr; · iapply (recs_dma P K c f b i); iexact Hr
    isplitl [Ht₂]; · iexact Ht₂
    iexact Hrd
  iintro ⟨Hc, HO⟩
  iapply Hk
  isplitl [HO]; · iexists W; iexact HO
  iexact Hc

end Cert.KernelIdeal.Talk
-- ==== Proof.Pieces.lean ====
/-
  The families of rectangles the kernel cuts its buffers into, and owning a buffer as owning its pieces.
-/
module

public import proofs.«01_k».proof.Proof.Mem
public import Idealize.ShloMosaic.Lib.Pipeline.Value
public import Idealize.ShloMosaic.Lib.Pipeline.ValueKit.Geometry

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A head's columns lie in the context's array. -/
theorem col_inb (h : Fin 8) : ∀ a, (![0, 64 * h.val] : Fin 2 → ℕ) a + S512x64.size a ≤ S512x512.size a := by
  revert h; decide
/-- Columns `64h .. 64h+63` of the context buffer. -/
abbrev colRect (h : Fin 8) : Rect S512x512 := Rect.unit (s := S512x512) ![0, 64 * h.val] S512x64.size (col_inb h)

/-- The chunks of the partial products, over batches and devices. -/
abbrev chunkRects (t : Fin 2 × Fin 8) : Rect S1024x768 := chunkRect t.1 t.2
/-- The landing slots, over batches and devices. -/
abbrev slotRects (t : Fin 2 × Fin 8) : Rect S2x8x64x768 := slotRect t.1 t.2

/-- The two batches' rows are disjoint. -/
theorem half_disj (t t' : Fin 2) (h : t ≠ t') : Disjoint (halfRect t).set (halfRect t').set := by
  have hne : t.val ≠ t'.val := fun e => h (Fin.ext e)
  refine Rect.unit_disjoint 0 ?_
  show 512 * t.val + 512 ≤ 512 * t'.val ∨ 512 * t'.val + 512 ≤ 512 * t.val
  omega
/-- The chunks of a batch are disjoint. -/
theorem part_disj (t t' : Fin 8) (h : t ≠ t') : Disjoint (partRect t).set (partRect t').set := by
  have hne : t.val ≠ t'.val := fun e => h (Fin.ext e)
  refine Rect.unit_disjoint 0 ?_
  show 64 * t.val + 64 ≤ 64 * t'.val ∨ 64 * t'.val + 64 ≤ 64 * t.val
  omega
/-- The heads' columns are disjoint. -/
theorem col_disj (t t' : Fin 8) (h : t ≠ t') : Disjoint (colRect t).set (colRect t').set := by
  have hne : t.val ≠ t'.val := fun e => h (Fin.ext e)
  refine Rect.unit_disjoint 1 ?_
  show 64 * t.val + 64 ≤ 64 * t'.val ∨ 64 * t'.val + 64 ≤ 64 * t.val
  omega
/-- The two planes of the reduced chunks are disjoint. -/
theorem plane_disj (t t' : Fin 2) (h : t ≠ t') : Disjoint (planeRect t).set (planeRect t').set := by
  have hne : t.val ≠ t'.val := fun e => h (Fin.ext e)
  refine Rect.unit_disjoint 0 ?_
  show t.val + 1 ≤ t'.val ∨ t'.val + 1 ≤ t.val
  omega
/-- The chunks of both batches are disjoint. -/
theorem chunk_disj (t t' : Fin 2 × Fin 8) (h : t ≠ t') : Disjoint (chunkRects t).set (chunkRects t').set := by
  obtain ⟨b, k⟩ := t; obtain ⟨b', k'⟩ := t'
  have hne : b.val ≠ b'.val ∨ k.val ≠ k'.val := by
    by_contra hh; push Not at hh; exact h (Prod.ext (Fin.ext hh.1) (Fin.ext hh.2))
  refine Rect.unit_disjoint 0 ?_
  show 512 * b.val + 64 * k.val + 64 ≤ 512 * b'.val + 64 * k'.val ∨ 512 * b'.val + 64 * k'.val + 64 ≤ 512 * b.val + 64 * k.val
  omega
/-- The slots are disjoint. -/
theorem slot_disj (t t' : Fin 2 × Fin 8) (h : t ≠ t') : Disjoint (slotRects t).set (slotRects t').set := by
  obtain ⟨b, k⟩ := t; obtain ⟨b', k'⟩ := t'
  by_cases hb : b = b'
  · have hk : k.val ≠ k'.val := fun e => h (Prod.ext hb (Fin.ext e))
    refine Rect.unit_disjoint 1 ?_
    show k.val + 1 ≤ k'.val ∨ k'.val + 1 ≤ k.val
    omega
  · have hb : b.val ≠ b'.val := fun e => hb (Fin.ext e)
    refine Rect.unit_disjoint 0 ?_
    show b.val + 1 ≤ b'.val ∨ b'.val + 1 ≤ b.val
    omega

/-- The two batches' rows are all rows. -/
theorem half_cov : (Finset.univ : Finset (Fin 2)).biUnion (fun t => (halfRect t).set) = Finset.univ := by
  ext i; simp only [Finset.mem_biUnion, Finset.mem_univ, true_and, iff_true]
  have h0 : (i 0).val < 1024 := (i 0).isLt
  have h1 : (i 1).val < 768 := (i 1).isLt
  refine ⟨⟨(i 0).val / 512, by omega⟩, Rect.mem_set_unit.mpr (Fin.forall_fin_two.mpr ⟨?_, ?_⟩)⟩
  · show 512 * ((i 0).val / 512) ≤ (i 0).val ∧ (i 0).val < 512 * ((i 0).val / 512) + 512; omega
  · show 0 ≤ (i 1).val ∧ (i 1).val < 0 + 768; omega
/-- The chunks of a batch are all its rows. -/
theorem part_cov : (Finset.univ : Finset (Fin 8)).biUnion (fun t => (partRect t).set) = Finset.univ := by
  ext i; simp only [Finset.mem_biUnion, Finset.mem_univ, true_and, iff_true]
  have h0 : (i 0).val < 512 := (i 0).isLt
  have h1 : (i 1).val < 768 := (i 1).isLt
  refine ⟨⟨(i 0).val / 64, by omega⟩, Rect.mem_set_unit.mpr (Fin.forall_fin_two.mpr ⟨?_, ?_⟩)⟩
  · show 64 * ((i 0).val / 64) ≤ (i 0).val ∧ (i 0).val < 64 * ((i 0).val / 64) + 64; omega
  · show 0 ≤ (i 1).val ∧ (i 1).val < 0 + 768; omega
/-- The heads' columns are all columns. -/
theorem col_cov : (Finset.univ : Finset (Fin 8)).biUnion (fun t => (colRect t).set) = Finset.univ := by
  ext i; simp only [Finset.mem_biUnion, Finset.mem_univ, true_and, iff_true]
  have h0 : (i 0).val < 512 := (i 0).isLt
  have h1 : (i 1).val < 512 := (i 1).isLt
  refine ⟨⟨(i 1).val / 64, by omega⟩, Rect.mem_set_unit.mpr (Fin.forall_fin_two.mpr ⟨?_, ?_⟩)⟩
  · show 0 ≤ (i 0).val ∧ (i 0).val < 0 + 512; omega
  · show 64 * ((i 1).val / 64) ≤ (i 1).val ∧ (i 1).val < 64 * ((i 1).val / 64) + 64; omega
/-- The chunks of both batches are all rows. -/
theorem chunk_cov : (Finset.univ : Finset (Fin 2 × Fin 8)).biUnion (fun t => (chunkRects t).set) = Finset.univ := by
  ext i; simp only [Finset.mem_biUnion, Finset.mem_univ, true_and, iff_true]
  have h0 : (i 0).val < 1024 := (i 0).isLt
  have h1 : (i 1).val < 768 := (i 1).isLt
  refine ⟨(⟨(i 0).val / 512, by omega⟩, ⟨(i 0).val % 512 / 64, by omega⟩), Rect.mem_set_unit.mpr (Fin.forall_fin_two.mpr ⟨?_, ?_⟩)⟩
  · show 512 * ((i 0).val / 512) + 64 * ((i 0).val % 512 / 64) ≤ (i 0).val
      ∧ (i 0).val < 512 * ((i 0).val / 512) + 64 * ((i 0).val % 512 / 64) + 64
    omega
  · show 0 ≤ (i 1).val ∧ (i 1).val < 0 + 768; omega
/-- The two planes are the whole array. -/
theorem plane_cov : (Finset.univ : Finset (Fin 2)).biUnion (fun t => (planeRect t).set) = Finset.univ := by
  ext i; simp only [Finset.mem_biUnion, Finset.mem_univ, true_and, iff_true]
  refine ⟨⟨(i 0).val, (i 0).isLt⟩, Rect.mem_set_unit.mpr (Fin.forall_fin_succ.mpr ⟨?_, Fin.forall_fin_two.mpr ⟨?_, ?_⟩⟩)⟩
  · show (i 0).val ≤ (i 0).val ∧ (i 0).val < (i 0).val + 1; omega
  · have h1 : (i 1).val < 64 := (i 1).isLt
    show 0 ≤ (i 1).val ∧ (i 1).val < 0 + 64; omega
  · have h1 : (i 2).val < 768 := (i 2).isLt
    show 0 ≤ (i 2).val ∧ (i 2).val < 0 + 768; omega
/-- The slots are the whole array. -/
theorem slot_cov : (Finset.univ : Finset (Fin 2 × Fin 8)).biUnion (fun t => (slotRects t).set) = Finset.univ := by
  ext i; simp only [Finset.mem_biUnion, Finset.mem_univ, true_and, iff_true]
  refine ⟨(⟨(i 0).val, (i 0).isLt⟩, ⟨(i 1).val, (i 1).isLt⟩), Rect.mem_set_unit.mpr (Fin.forall_fin_succ.mpr ⟨?_, Fin.forall_fin_succ.mpr ⟨?_, Fin.forall_fin_two.mpr ⟨?_, ?_⟩⟩⟩)⟩
  · show (i 0).val ≤ (i 0).val ∧ (i 0).val < (i 0).val + 1; omega
  · show (i 1).val ≤ (i 1).val ∧ (i 1).val < (i 1).val + 1; omega
  · have h1 : (i 2).val < 64 := (i 2).isLt
    show 0 ≤ (i 2).val ∧ (i 2).val < 0 + 64; omega
  · have h1 : (i 3).val < 768 := (i 3).isLt
    show 0 ≤ (i 3).val ∧ (i 3).val < 0 + 768; omega

section Glue

variable (c : Thread nD τ) {sp : Space} {s : Shape} {e : EltTy} (m : Memref sig c.2.kind sp s e)
variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd hcov in
/-- A memref owned at any contents is its pieces so owned. -/
theorem any_rects : iprop(∃ X, owns c m fullShare X) ⊣⊢ (bigSep Finset.univ fun t => iprop(∃ Y, owns c (m.slice (r t) (hr t)) fullShare Y) : sProp 𝕄) := by
  have hne : ∀ e, Nonempty (Elt F e) := fun e => inferInstance
  constructor
  · refine (ownsSat_true c m fullShare).2.trans ?_
    refine (ownsSat_mono c m fullShare (fun X _ t => trivial)).trans ((ownsSat_rects c m fullShare r hr hd hcov (fun _ _ => True)).trans ?_)
    exact bigSep_mono fun t _ => (ownsSat_true c (m.slice (r t) (hr t)) fullShare).1
  · refine BIBase.Entails.trans ?_ (ownsSat_any c m fullShare (Φ := fun X => ∀ t, (fun _ _ => True : (t : T) → ((r t).shape.Idx → Elt F e) → Prop) t fun j => X ((r t).emb j)))
    refine BIBase.Entails.trans ?_ (ownsSat_of_rects c m fullShare r hr hd hcov (fun _ _ => True))
    exact bigSep_mono fun t _ => (ownsSat_true c (m.slice (r t) (hr t)) fullShare).2

include hd in
/-- Pieces owned at contents `Xs` are the memref owned at the contents glued. -/
theorem owns_glue (q : PosShare TreeShare) (Xs : (t : T) → (r t).shape.Idx → Elt F e) :
    (bigSep Finset.univ fun t => owns c (m.slice (r t) (hr t)) q (Xs t)) ⊢ (owns c m q (Rect.glue r hcov Xs) : sProp 𝕄) := by
  have hg (t : T) : (fun j => Rect.glue r hcov Xs ((r t).emb j)) = Xs t := funext fun y => Rect.glue_emb r hcov hd Xs t y
  have h : (_ : sProp 𝕄) ⊢ (_ : sProp 𝕄) := owns_of_rects c m q r hr hd hcov (Rect.glue r hcov Xs)
  simp only [hg] at h
  exact h

end Glue

/-- The context of one half, from its eight heads. -/
def ctxOf (X : Fin 8 → Vec F S512x64 .bf16) : Vec F S512x512 .bf16 := Rect.glue colRect col_cov X
/-- The whole result, from its sixteen blocks of rows. -/
def outOf (X : Fin 2 × Fin 8 → Vec F S64x768 .f32) : Vec F S1024x768 .f32 := Rect.glue chunkRects chunk_cov X

/-- The context read in a head's columns is that head's. -/
theorem ctxOf_emb (X : Fin 8 → Vec F S512x64 .bf16) (h : Fin 8) (j : S512x64.Idx) : ctxOf X ((colRect h).emb j) = X h j :=
  Rect.glue_emb colRect col_cov col_disj X h j
/-- The result read in a chunk's rows is that chunk's value. -/
theorem outOf_emb (X : Fin 2 × Fin 8 → Vec F S64x768 .f32) (t : Fin 2 × Fin 8) (j : S64x768.Idx) : outOf X ((chunkRects t).emb j) = X t j :=
  Rect.glue_emb chunkRects chunk_cov chunk_disj X t j

section Bufs

variable (c : Dev nD)

/-- A half of the staged partial product is its eight chunks. -/
theorem owns_half_chunk (b : Fin 2) (k : Fin 8) (q : PosShare TreeShare) (X : Vec F S64x768 .bf16) :
    (owns (c : Thread nD τ) ((A6.slice (halfRect b) (fun _ => rfl)).slice (partRect k) (fun _ => rfl)) q X : sProp 𝕄)
      = owns (c : Thread nD τ) (pstChunk b k) q X := by
  have he : ∀ j : S64x768.Idx, (halfRect b).emb ((partRect k).emb j) = (chunkRect b k).emb j := fun j => by
    funext a; apply Fin.ext
    rw [ValueKit.rect_emb_unit_val, ValueKit.rect_emb_unit_val, ValueKit.rect_emb_unit_val]
    revert a
    exact Fin.forall_fin_two.mpr ⟨by show 512 * b.val + (64 * k.val + _) = 512 * b.val + 64 * k.val + _; omega, by show 0 + (0 + _) = 0 + _; omega⟩
  have hs : ((A6.slice (halfRect b) (fun _ => rfl)).slice (partRect k) (fun _ => rfl)).view.set = (pstChunk b k).view.set := by
    unfold View.set; congr 1
    ext j : 1; exact congrArg A6.view.emb (he j)
  have hread : ∀ f : A6.view.ty.Contents (Elt F), ((A6.slice (halfRect b) (fun _ => rfl)).slice (partRect k) (fun _ => rfl)).view.read (Elt F) f
      = (pstChunk b k).view.read (Elt F) f := fun f => funext fun j => by
    show A6.view.read (Elt F) f _ = A6.view.read (Elt F) f _
    exact congrArg _ (he j)
  have h1 : (owns (c : Thread nD τ) ((A6.slice (halfRect b) (fun _ => rfl)).slice (partRect k) (fun _ => rfl)) q X : sProp 𝕄)
      ⊢ owns (c : Thread nD τ) (pstChunk b k) q X := by
    unfold owns; iintro ⟨%f, %hf, H⟩; iexists f
    isplitr; · ipureintro; rw [← hread]; exact hf
    rw [← hs]; iexact H
  have h2 : (owns (c : Thread nD τ) (pstChunk b k) q X : sProp 𝕄)
      ⊢ owns (c : Thread nD τ) ((A6.slice (halfRect b) (fun _ => rfl)).slice (partRect k) (fun _ => rfl)) q X := by
    unfold owns; iintro ⟨%f, %hf, H⟩; iexists f
    isplitr; · ipureintro; rw [hread]; exact hf
    rw [hs]; iexact H
  exact BI.Entails.antisymm h1 h2

/-- Owning a batch's rows is owning its chunks. -/
theorem half_chunks (b : Fin 2) (Y : Vec F S512x768 .bf16) :
    (owns (c : Thread nD τ) (A6.slice (halfRect b) (fun _ => rfl)) fullShare Y : sProp 𝕄)
      ⊢ bigSep Finset.univ fun k => owns (c : Thread nD τ) (pstChunk b k) fullShare (chunk k Y) := by
  refine (owns_rects (c : Thread nD τ) (A6.slice (halfRect b) (fun _ => rfl)) fullShare partRect (fun _ _ => rfl) part_disj part_cov Y).trans ?_
  exact bigSep_mono fun k _ => Entails.of_eq (owns_half_chunk c b k fullShare (chunk k Y))

/-- The staged partial product, any contents: its halves, and its sixteen chunks. -/
theorem pst_halves : iprop(∃ X, owns (c : Thread nD τ) A6 fullShare X)
    ⊣⊢ (bigSep Finset.univ fun b => iprop(∃ Y, owns (c : Thread nD τ) (A6.slice (halfRect b) (fun _ => rfl)) fullShare Y) : sProp 𝕄) :=
  any_rects (c : Thread nD τ) A6 halfRect (fun _ _ => rfl) half_disj half_cov
/-- Owning the partial products with any contents is owning their chunks so. -/
theorem pst_chunks : iprop(∃ X, owns (c : Thread nD τ) A6 fullShare X)
    ⊣⊢ (bigSep Finset.univ fun b => bigSep Finset.univ fun k => iprop(∃ Y, owns (c : Thread nD τ) (pstChunk b k) fullShare Y) : sProp 𝕄) := by
  have := any_rects (F := F) (c : Thread nD τ) A6 chunkRects (fun _ _ => rfl) chunk_disj chunk_cov
  rw [bigSep_univ_prod] at this; exact this
/-- Owning the context with any contents is owning the heads' columns so. -/
theorem ctx_cols : iprop(∃ X, owns (c : Thread nD τ) A7 fullShare X)
    ⊣⊢ (bigSep Finset.univ fun h => iprop(∃ Y, owns (c : Thread nD τ) (A7.slice (colRect h) (fun _ => rfl)) fullShare Y) : sProp 𝕄) :=
  any_rects (c : Thread nD τ) A7 colRect (fun _ _ => rfl) col_disj col_cov
/-- Owning the reduced chunks with any contents is owning the two planes so. -/
theorem red_planes : iprop(∃ X, owns (c : Thread nD τ) A10 fullShare X)
    ⊣⊢ (bigSep Finset.univ fun b => iprop(∃ Y, owns (c : Thread nD τ) (A10.slice (planeRect b) (fun _ => rfl)) fullShare Y) : sProp 𝕄) :=
  any_rects (c : Thread nD τ) A10 planeRect (fun _ _ => rfl) plane_disj plane_cov

/-- A slot has as many elements as a chunk. -/
theorem casts_slot : S1x1x64x768.ShapeCasts S64x768 := by decide
/-- A plane has as many elements as a chunk. -/
theorem casts_plane : S1x64x768.ShapeCasts S64x768 := by decide
/-- A chunk has as many elements as a plane. -/
theorem casts_plane_up : S64x768.ShapeCasts S1x64x768 := by decide

/-- A slot owned is the four-axis slice owned at the contents with two unit axes. -/
theorem owns_slot (m : Memref sig .tc .vmem S2x8x64x768 .bf16) (b : Fin 2) (k : Fin 8) (q : PosShare TreeShare) (X : Vec F S64x768 .bf16) :
    (owns (c : Thread nD τ) ((m.slice (slotRect b k) (fun _ => rfl)).squeeze S64x768 squeezes_S1x1x64x768_S64x768) q X : sProp 𝕄)
      = owns (c : Thread nD τ) (m.slice (slotRect b k) (fun _ => rfl)) q (slotUp X) := by
  rw [← owns_squeeze (c : Thread nD τ) (m.slice (slotRect b k) (fun _ => rfl)) q squeezes_S1x1x64x768_S64x768 casts_slot (slotUp X)]
  exact congrArg _ (shapeCast_shapeCast X casts_up casts_slot).symm
/-- A reduced chunk is owned through its plane's rectangle. -/
theorem owns_plane (b : Fin 2) (q : PosShare TreeShare) (X : Vec F S64x768 .bf16) :
    (owns (c : Thread nD τ) (redPlane b) q X : sProp 𝕄)
      = owns (c : Thread nD τ) (A10.slice (planeRect b) (fun _ => rfl)) q (shapeCast S1x64x768 X casts_plane_up) := by
  rw [← owns_squeeze (c : Thread nD τ) (A10.slice (planeRect b) (fun _ => rfl)) q squeezes_S1x64x768_S64x768 casts_plane (shapeCast S1x64x768 X casts_plane_up)]
  exact congrArg _ (shapeCast_shapeCast X casts_plane_up casts_plane).symm

/-- A slot is owned, with any contents, through its rectangle. -/
theorem any_slot (m : Memref sig .tc .vmem S2x8x64x768 .bf16) (b : Fin 2) (k : Fin 8) :
    iprop(∃ Y, owns (c : Thread nD τ) (m.slice (slotRect b k) (fun _ => rfl)) fullShare Y)
      ⊣⊢ (iprop(∃ Y, owns (c : Thread nD τ) ((m.slice (slotRect b k) (fun _ => rfl)).squeeze S64x768 squeezes_S1x1x64x768_S64x768) fullShare Y) : sProp 𝕄) := by
  constructor
  · iintro ⟨%Y, H⟩; iexists shapeCast S64x768 Y casts_slot
    rw [owns_squeeze]; iexact H
  · iintro ⟨%Y, H⟩; iexists slotUp Y
    iapply (Entails.of_eq (owns_slot c m b k fullShare Y)); iexact H
/-- Owning an array of slots with any contents is owning each slot so. -/
theorem slots (m : Memref sig .tc .vmem S2x8x64x768 .bf16) : iprop(∃ X, owns (c : Thread nD τ) m fullShare X)
    ⊣⊢ (bigSep Finset.univ fun b => bigSep Finset.univ fun k =>
      iprop(∃ Y, owns (c : Thread nD τ) ((m.slice (slotRect b k) (fun _ => rfl)).squeeze S64x768 squeezes_S1x1x64x768_S64x768) fullShare Y) : sProp 𝕄) := by
  have := any_rects (F := F) (c : Thread nD τ) m slotRects (fun _ _ => rfl) slot_disj slot_cov
  rw [bigSep_univ_prod] at this
  exact ⟨this.1.trans (bigSep_mono fun b _ => bigSep_mono fun k _ => (any_slot c m b k).1),
    (bigSep_mono fun b _ => bigSep_mono fun k _ => (any_slot c m b k).2).trans this.2⟩

/-- A reduced plane is its eight readers' shares and a remainder. -/
theorem plane_shares (b : Fin 2) (X : Vec F S64x768 .bf16) :
    (owns (c : Thread nD τ) (redPlane b) fullShare X : sProp 𝕄)
      ⊣⊢ iprop(owns (c : Thread nD τ) (redPlane b) (Transfers.shareDrop fullShare 8) X
        ∗ bigSep (Finset.univ : Finset (Fin 8)) fun d => owns (c : Thread nD τ) (redPlane b) (rshare d) X) := by
  have h : (bigSep (Finset.univ : Finset (Fin 8)) fun d => owns (c : Thread nD τ) (redPlane b) (rshare d) X : sProp 𝕄)
      = bigSep (Finset.range 8) fun i => owns (c : Thread nD τ) (redPlane b) (Transfers.shareTokN fullShare i) X := by
    rw [← Nat.Iio_eq_range, ← Fin.map_valEmbedding_univ, bigSep_map]; rfl
  rw [h]; exact owns_toks (c : Thread nD τ) (redPlane b) fullShare 8 X

end Bufs

end Cert.KernelIdeal.Talk
-- ==== Proof.Bundles.lean ====
/-
  What a device holds while it works through a family of like steps, and the steps taken one at a time: the members
  still to do are held in one form, the members done in another.
-/
module

public import proofs.«01_k».proof.Proof.Steps
public import proofs.«01_k».proof.Proof.Pieces

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families worked through in order -/

/-- `n` members, those before `j` done. -/
def fam (n : ℕ) (Φ Ψ : Fin n → sProp 𝕄) (j : ℕ) : sProp 𝕄 := iprop(bigSep (from' n j) Φ ∗ bigSep (upto n j) Ψ)

section Fam

variable {n : ℕ}

/-- Nothing done: the resources before. -/
theorem fam_start (Φ Ψ : Fin n → sProp 𝕄) : (bigSep Finset.univ Φ : sProp 𝕄) ⊢ fam n Φ Ψ 0 := by
  unfold fam; rw [from'_zero, upto_zero, bigSep_empty]
  iintro H; isplitl [H]; · iexact H
  iempintro
/-- All done: the resources after. -/
theorem fam_done (Φ Ψ : Fin n → sProp 𝕄) {j : ℕ} (hj : j = n) : fam n Φ Ψ j ⊢ (bigSep Finset.univ Ψ : sProp 𝕄) := by
  subst hj; unfold fam; rw [upto_top]
  iintro ⟨-, H⟩; iexact H
/-- The next of the family, and the way back with that one done. -/
theorem fam_peel (Φ Ψ : Fin n → sProp 𝕄) {j : ℕ} (hj : j < n) : fam n Φ Ψ j ⊢ (iprop(Φ ⟨j, hj⟩ ∗ (Ψ ⟨j, hj⟩ -∗ fam n Φ Ψ (j + 1))) : sProp 𝕄) := by
  have h1 : bigSep (from' n j) Φ = (iprop(Φ ⟨j, hj⟩ ∗ bigSep (from' n (j + 1)) Φ) : sProp 𝕄) := by
    rw [show from' n j = insert ⟨j, hj⟩ (from' n (j + 1)) from from'_insert ⟨j, hj⟩, bigSep_ins (notMem_from' ⟨j, hj⟩)]
  have h2 : bigSep (upto n (j + 1)) Ψ = (iprop(Ψ ⟨j, hj⟩ ∗ bigSep (upto n j) Ψ) : sProp 𝕄) := by
    rw [show upto n (j + 1) = insert ⟨j, hj⟩ (upto n j) from upto_insert ⟨j, hj⟩, bigSep_ins (notMem_upto ⟨j, hj⟩)]
  unfold fam; rw [h1, h2]
  iintro ⟨⟨Hp, Hf⟩, Hu⟩
  isplitl [Hp]; · iexact Hp
  iintro Hq
  isplitl [Hf]; · iexact Hf
  isplitl [Hq]; · iexact Hq
  iexact Hu
/-- The member last done, lent out. -/
theorem fam_last (Φ Ψ : Fin n → sProp 𝕄) {j : ℕ} (hj : j < n) : fam n Φ Ψ (j + 1) ⊢ (iprop(Ψ ⟨j, hj⟩ ∗ (Ψ ⟨j, hj⟩ -∗ fam n Φ Ψ (j + 1))) : sProp 𝕄) := by
  have h2 : bigSep (upto n (j + 1)) Ψ = (iprop(Ψ ⟨j, hj⟩ ∗ bigSep (upto n j) Ψ) : sProp 𝕄) := by
    rw [show upto n (j + 1) = insert ⟨j, hj⟩ (upto n j) from upto_insert ⟨j, hj⟩, bigSep_ins (notMem_upto ⟨j, hj⟩)]
  unfold fam; rw [h2]
  iintro ⟨Hf, Hq, Hu⟩
  isplitl [Hq]; · iexact Hq
  iintro Hq
  isplitl [Hf]; · iexact Hf
  isplitl [Hq]; · iexact Hq
  iexact Hu
/-- The next member, lent out. -/
theorem fam_next (Φ Ψ : Fin n → sProp 𝕄) {j : ℕ} (hj : j < n) : fam n Φ Ψ j ⊢ (iprop(Φ ⟨j, hj⟩ ∗ (Φ ⟨j, hj⟩ -∗ fam n Φ Ψ j)) : sProp 𝕄) := by
  have h1 : bigSep (from' n j) Φ = (iprop(Φ ⟨j, hj⟩ ∗ bigSep (from' n (j + 1)) Φ) : sProp 𝕄) := by
    rw [show from' n j = insert ⟨j, hj⟩ (from' n (j + 1)) from from'_insert ⟨j, hj⟩, bigSep_ins (notMem_from' ⟨j, hj⟩)]
  unfold fam; rw [h1]
  iintro ⟨⟨Hp, Hf⟩, Hu⟩
  isplitl [Hp]; · iexact Hp
  iintro Hq
  isplitl [Hq Hf]
  · isplitl [Hq]; · iexact Hq
    iexact Hf
  iexact Hu

end Fam

/-! ## The families of the protocol -/

variable (P : Dev nD → Fin 2 → Vec F S512x768 .bf16) (K : GSem nD τ sig → ℕ) (c : Dev nD)

/-- The seven barrier signals. -/
def sigS (j : ℕ) : sProp 𝕄 :=
  fam 7 (fun i => iprop(dutyTok (ER (F := F)) (barCell (pe c i.succ)) 0 c ∗ give (pe c i.succ) c)) (fun _ => iprop(emp)) j

/-- The eight reduce-scatter copies of one half. -/
def rsS (b : Fin 2) (j : ℕ) : sProp 𝕄 :=
  fam 8 (fun k : Fin 8 => iprop(((∃ Y, owns ((k : Dev nD) : Thread nD τ) (rsSlot b c) fullShare Y) ∗ reached (ER (F := F)) (dcell k 1 b c) 0)
      ∗ dutyTok (ER (F := F)) (dcell k 1 b c) 0 0 ∗ dutyTok (ER (F := F)) (dcell c 0 b k) 0 0
      ∗ owns (c : Thread nD τ) (pstChunk b k) fullShare (chunk k (P c b))))
    (fun k => cred (tallyAt (dcell c 0 b k) () N)) j

/-- The eight all-gather copies of one half. -/
def agS (b : Fin 2) (j : ℕ) : sProp 𝕄 :=
  fam 8 (fun d : Fin 8 => iprop(((∃ Y, owns ((pe c d) : Thread nD τ) (agSlot b c) fullShare Y) ∗ reached (ER (F := F)) (dcell (pe c d) 3 b c) 0)
      ∗ dutyTok (ER (F := F)) (dcell (pe c d) 3 b c) 0 0 ∗ dutyTok (ER (F := F)) (dcell c 2 b d) 0 0
      ∗ owns (c : Thread nD τ) (redPlane b) (rshare d) (red P c b)))
    (fun d => cred (tallyAt (dcell c 2 b d) () N)) j

/-- The eight waits of one family and half. -/
def wS (f : Fin 4) (b : Fin 2) (j : ℕ) : sProp 𝕄 :=
  fam 8 (fun k => iprop(atPos (ER (F := F)) (dcell c f b k) 0 ∅ 0 ∗ cred (tallyAt (dcell c f b k) () N)))
    (fun k => iprop(semVal (dcell c f b k) 0 ∗ pay P c f.val b k)) j

/-- The eight columns of the context buffer, those before `j` holding `X`. -/
def ctxS (X : Fin 8 → Vec F S512x64 .bf16) (j : ℕ) : sProp 𝕄 :=
  fam 8 (fun h => iprop(∃ Y, owns (c : Thread nD τ) (A7.slice (colRect h) (fun _ => rfl)) fullShare Y))
    (fun h => owns (c : Thread nD τ) (A7.slice (colRect h) (fun _ => rfl)) fullShare (X h)) j

/-- What one block of rows of the result holds: the block gathered, widened. -/
def outVal (X : Vec F S64x768 .bf16) : Vec F S64x768 .f32 := k0_pay56 (slotUp X)

/-- The eight blocks of rows of one half of the result. -/
def outS (a5 : Memref sig .tc .vmem S1024x768 .f32) (b : Fin 2) (j : ℕ) : sProp 𝕄 :=
  fam 8 (fun k => iprop(∃ Y, owns (c : Thread nD τ) (a5.slice (chunkRect b k) (fun _ => rfl)) fullShare Y))
    (fun k => owns (c : Thread nD τ) (a5.slice (chunkRect b k) (fun _ => rfl)) fullShare (outVal (red P k b))) j

variable {α : Type}

/-- The weakest precondition of a body's code on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program followed by another, from the entailment for the two in turn. -/
theorem bind_le {R : sProp 𝕄} {β : Type} {p : Prog (TpuEff nD τ sig (Elt F) Λ₀ .tc) β} {k : β → Prog (TpuEff nD τ sig (Elt F) Λ₀ .tc) α} {Q : α → sProp 𝕄}
    (H : R ⊢ WP c p fun a => WP c (k a) Q) : R ⊢ WP c (p >>= k) Q := by
  unfold WP; rw [wp_bind]; exact H
/-- A program that only returns, from its postcondition. -/
theorem ret_le {R : sProp 𝕄} {v : α} {Q : α → sProp 𝕄} (H : R ⊢ Q v) : R ⊢ WP c (pure v) Q := by
  refine H.trans ?_
  show Q v ⊢ wp frame _ Set.univ (Prog.ret v) Q
  rw [wp_ret]
  iintro H; imodintro; iexact H
/-- Reading the device's number gives that number. -/
theorem dev_le {R : sProp 𝕄} {k : Dev nD → Prog (TpuEff nD τ sig (Elt F) Λ₀ .tc) α} {Q : α → sProp 𝕄}
    (H : R ⊢ WP c (k c) Q) : R ⊢ WP c (Prog.lift .deviceId >>= k) Q := by
  refine bind_le c ?_
  unfold WP
  rw [show (Prog.lift (TpuEff.deviceId) : Prog (TpuEff nD τ sig (Elt F) Λ₀ .tc) (Dev nD)) = .op .deviceId fun a => .ret a from rfl]
  simp only [wp_deviceId, wp_ret]
  refine H.trans ?_
  iintro H; imodintro; iexact H

/-! ## Steps -/

/-- One signal of the barrier: the device pays its duty at the next peer and hands over the landing slots for it. -/
theorem sig_step {R : sProp 𝕄} {j : ℕ} (hj : j < 7) {O : CellTallies nD τ sig Unit} {d' : Dev nD} (hd : d' = pe c (Fin.succ ⟨j, hj⟩)) {s : Sem sig} (hs : s = barrier0)
    {k : PUnit → Prog (TpuEff nD τ sig (Elt F) Λ₀ .tc) α} {Q : α → sProp 𝕄}
    (H : iprop(recs P K c ∗ ow (F := F) c (obar c (j + 1) + O) ∗ sigS (F := F) c (j + 1) ∗ R) ⊢ WP c (k ⟨⟩) Q) :
    iprop(recs P K c ∗ ow (F := F) c (obar c j + O) ∗ sigS (F := F) c j ∗ R) ⊢ WP c (semSignalWord d' s 1#32 >>= k) Q := by
  have hne : c ≠ pe c (Fin.succ ⟨j, hj⟩) := by
    revert c; have : ∀ (j : Fin 7) (c : Dev nD), c ≠ pe c j.succ := by decide
    exact fun c _ _ => this ⟨j, hj⟩ c
  iintro ⟨#Hr, HO, HS, HR⟩
  ihave HS := (show sigS (F := F) c j ⊢ iprop(_ ∗ (_ -∗ sigS (F := F) c (j + 1))) from fam_peel _ _ hj) $$ HS
  icases HS with ⟨⟨Ht, Hg⟩, HS⟩
  iapply (wp_bar_signal P K c (pe c (Fin.succ ⟨j, hj⟩)) hne (obar c (j + 1) + O)
    (O' := obar c j + O) (by rw [show obar c j = _ from obar_step c ⟨j, hj⟩, add_right_comm]) d' hd s hs) $$ [HO Ht Hg]
  · isplitr; · iexact Hr
    isplitl [HO]; · iexact HO
    isplitl [Ht]; · iexact Ht
    iexact Hg
  iintro HO
  iapply H
  isplitr; · iexact Hr
  isplitl [HO]; · iexact HO
  isplitl [HS]; · iapply HS; iempintro
  iexact HR

/-- The wait on the barrier: the device receives from every peer the slots that it may copy into. -/
theorem bar_step {R : sProp 𝕄} {O : CellTallies nD τ sig Unit} (hO : Above 1 O) {s : Sem sig} (hs : s = barrier0)
    {k : PUnit → Prog (TpuEff nD τ sig (Elt F) Λ₀ .tc) α} {Q : α → sProp 𝕄}
    (H : iprop(recs P K c ∗ ow (F := F) c O ∗ (semVal (barCell c) 0 ∗ bigSep (Finset.univ.erase c) fun d => give c d) ∗ R) ⊢ WP c (k ⟨⟩) Q) :
    iprop(recs P K c ∗ ow (F := F) c O ∗ (atPos (ER (F := F)) (barCell c) 0 ∅ 0 ∗ cred (tallyAt (barCell c) () 7)) ∗ R) ⊢ WP c (semWaitWord s 7#32 >>= k) Q := by
  iintro ⟨#Hr, HO, ⟨Ha, Hc⟩, HR⟩
  iapply (wp_bar_wait P K c O hO s hs) $$ [HO Ha Hc]
  · isplitr; · iexact Hr
    isplitl [HO]; · iexact HO
    isplitl [Ha]; · iexact Ha
    iexact Hc
  iintro ⟨HO, Hv, Hg⟩
  iapply H
  isplitr; · iexact Hr
  isplitl [HO]; · iexact HO
  isplitl [Hv Hg]
  · isplitl [Hv]; · iexact Hv
    iexact Hg
  iexact HR

/-- One wait of a family of copies' semaphores: the payload of the next cell comes in. -/
theorem wait_step {R : sProp 𝕄} (n : ℕ) (f : Fin 4) (b : Fin 2) {j : ℕ} (hj : j < 8) (hn : (if f.val = 1 then 2 else if f.val = 3 then 3 else 0) ≤ n)
    {O : CellTallies nD τ sig Unit} (hO : Above n O)
    {src dst : Memref sig .tc .vmem S64x768 .bf16} {h₁ : src.view.WordExact} {h₂ : dst.view.WordExact}
    {S : DmaSem sig} (hS : S = dsem f b ⟨j, hj⟩)
    {k : PUnit → Prog (TpuEff nD τ sig (Elt F) Λ₀ .tc) α} {Q : α → sProp 𝕄}
    (H : iprop(recs P K c ∗ ow (F := F) c O ∗ wS P c f b (j + 1) ∗ R) ⊢ WP c (k ⟨⟩) Q) :
    iprop(recs P K c ∗ ow (F := F) c O ∗ wS P c f b j ∗ R) ⊢ WP c (Prog.lift (.waitDma2 S src dst h₁ h₂) >>= k) Q := by
  iintro ⟨#Hr, HO, HS, HR⟩
  ihave HS := (show wS P c f b j ⊢ iprop(_ ∗ (_ -∗ wS P c f b (j + 1))) from fam_peel _ _ hj) $$ HS
  icases HS with ⟨⟨Ha, Hc⟩, HS⟩
  iapply (wp_dma_wait P K c f b ⟨j, hj⟩ n (le_trans (le_of_eq (lv_dma c f b ⟨j, hj⟩)) hn) O hO S hS (show dst.view.dmaCredit = N from rfl)) $$ [HO Ha Hc]
  · isplitr; · iexact Hr
    isplitl [HO]; · iexact HO
    isplitl [Ha]; · iexact Ha
    iexact Hc
  iintro ⟨HO, Hv, Hp⟩
  iapply H
  isplitr; · iexact Hr
  isplitl [HO]; · iexact HO
  isplitl [HS Hv Hp]
  · iapply HS
    isplitl [Hv]; · iexact Hv
    iexact Hp
  iexact HR

/-- One copy of the reduce-scatter: chunk `j` of the partial product starts for its slot on device `j`. -/
theorem rs_step {R : sProp 𝕄} (b : Fin 2) {j : ℕ} (hj : j < 8) {O : CellTallies nD τ sig Unit} (hN : (rsSlot b c).view.dmaCredit = N)
    {d' : Dev nD} (hd : d' = (⟨j, hj⟩ : Fin 8)) {dst : Memref sig .tc .vmem S64x768 .bf16} (hdst : dst = rsSlot b c)
    {src' : Memref sig .tc .vmem S64x768 .bf16} (hsrc : src' = pstChunk b ⟨j, hj⟩)
    {S₁ S₂ : DmaSem sig} (hS₁ : S₁ = dsem 0 b ⟨j, hj⟩) (hS₂ : S₂ = dsem 1 b c)
    {hsc : dst.view.ref.isScScratch = false} {h₃ : src'.view.WordExact} {h₄ : dst.view.WordExact}
    {h₅ : DmaTarget.Typed .vmem (.dma S₂) (.remote (Dev.tc d' : Thread nD τ) dst (.dma S₁) hsc)}
    {k : PUnit → Prog (TpuEff nD τ sig (Elt F) Λ₀ .tc) α} {Q : α → sProp 𝕄}
    (H : iprop(recs P K c ∗ ow (F := F) c (ors c b (j + 1) + O) ∗ rsS P c b (j + 1) ∗ R) ⊢ WP c (k ⟨⟩) Q) :
    iprop(recs P K c ∗ ow (F := F) c (ors c b j + O) ∗ rsS P c b j ∗ R)
      ⊢ WP c (Prog.lift (.enqueueDma src' (.remote (Dev.tc d') dst (.dma S₁) hsc) (.dma S₂) h₃ h₄ h₅) >>= k) Q := by
  iintro ⟨#Hr, HO, HS, HR⟩
  ihave HS := (show rsS P c b j ⊢ iprop(_ ∗ (_ -∗ rsS P c b (j + 1))) from fam_peel _ _ hj) $$ HS
  icases HS with ⟨⟨Hd, Ht₂, Ht₁, Hs⟩, HS⟩
  iapply (wp_copy_to P K c (⟨j, hj⟩ : Fin 8) 0 1 b ⟨j, hj⟩ c (ors c b (j + 1) + O)
    (O' := ors c b j + O) (by rw [show ors c b j = _ from ors_step c b ⟨j, hj⟩, add_right_comm]) (pstChunk b ⟨j, hj⟩) (rsSlot b c) fullShare (chunk ⟨j, hj⟩ (P c b))
    (pay_0 P c b ⟨j, hj⟩).symm (pay_1 P ⟨j, hj⟩ b c).symm hN d' hd dst hdst src' hsrc S₁ S₂ hS₁ hS₂) $$ [HO Hd Ht₁ Ht₂ Hs]
  · isplitr; · iexact Hr
    isplitl [HO]; · iexact HO
    isplitl [Hd]; · iexact Hd
    isplitl [Ht₂]; · iexact Ht₂
    isplitl [Ht₁]; · iexact Ht₁
    iexact Hs
  iintro ⟨HO, Hc⟩
  iapply H
  isplitr; · iexact Hr
  isplitl [HO]; · iexact HO
  isplitl [HS Hc]; · iapply HS; iexact Hc
  iexact HR

/-- One copy of the all-gather: the reduced chunk starts for its slot on the next peer, with a share of it lent. -/
theorem ag_step {R : sProp 𝕄} (b : Fin 2) {j : ℕ} (hj : j < 8) {O : CellTallies nD τ sig Unit} (hN : (agSlot b c).view.dmaCredit = N)
    {d' : Dev nD} (hd : d' = pe c ⟨j, hj⟩) {dst : Memref sig .tc .vmem S64x768 .bf16} (hdst : dst = agSlot b c)
    {src' : Memref sig .tc .vmem S64x768 .bf16} (hsrc : src' = redPlane b)
    {S₁ S₂ : DmaSem sig} (hS₁ : S₁ = dsem 2 b ⟨j, hj⟩) (hS₂ : S₂ = dsem 3 b c)
    {hsc : dst.view.ref.isScScratch = false} {h₃ : src'.view.WordExact} {h₄ : dst.view.WordExact}
    {h₅ : DmaTarget.Typed .vmem (.dma S₂) (.remote (Dev.tc d' : Thread nD τ) dst (.dma S₁) hsc)}
    {k : PUnit → Prog (TpuEff nD τ sig (Elt F) Λ₀ .tc) α} {Q : α → sProp 𝕄}
    (H : iprop(recs P K c ∗ ow (F := F) c (oag c b (j + 1) + O) ∗ agS P c b (j + 1) ∗ R) ⊢ WP c (k ⟨⟩) Q) :
    iprop(recs P K c ∗ ow (F := F) c (oag c b j + O) ∗ agS P c b j ∗ R)
      ⊢ WP c (Prog.lift (.enqueueDma src' (.remote (Dev.tc d') dst (.dma S₁) hsc) (.dma S₂) h₃ h₄ h₅) >>= k) Q := by
  iintro ⟨#Hr, HO, HS, HR⟩
  ihave HS := (show agS P c b j ⊢ iprop(_ ∗ (_ -∗ agS P c b (j + 1))) from fam_peel _ _ hj) $$ HS
  icases HS with ⟨⟨Hd, Ht₂, Ht₁, Hs⟩, HS⟩
  iapply (wp_copy_to P K c (pe c ⟨j, hj⟩) 2 3 b ⟨j, hj⟩ c (oag c b (j + 1) + O)
    (O' := oag c b j + O) (by rw [show oag c b j = _ from oag_step c b ⟨j, hj⟩, add_right_comm]) (redPlane b) (agSlot b c) (rshare ⟨j, hj⟩) (red P c b)
    (pay_2 P c b ⟨j, hj⟩).symm (pay_3 P (pe c ⟨j, hj⟩) b c).symm hN d' hd dst hdst src' hsrc S₁ S₂ hS₁ hS₂) $$ [HO Hd Ht₁ Ht₂ Hs]
  · isplitr; · iexact Hr
    isplitl [HO]; · iexact HO
    isplitl [Hd]; · iexact Hd
    isplitl [Ht₂]; · iexact Ht₂
    isplitl [Ht₁]; · iexact Ht₁
    iexact Hs
  iintro ⟨HO, Hc⟩
  iapply H
  isplitr; · iexact Hr
  isplitl [HO]; · iexact HO
  isplitl [HS Hc]; · iapply HS; iexact Hc
  iexact HR

/-! ## Loads and stores of what is held -/

/-- A load from a memref lent out of what is held. -/
theorem load_step {R : sProp 𝕄} {cs : CoreSpace} {s : Shape} {e : EltTy} {m : Memref sig .tc cs s e} {q : PosShare TreeShare} {X : s.Idx → Elt F e}
    (hs : R ⊢ iprop(owns (c : Thread nD τ) m q X ∗ (owns (c : Thread nD τ) m q X -∗ R)))
    {r : Rect s} {hl : m.view.LoadsAt r.toLoadRect} (Y : r.shape.Idx → Elt F e) (hY : (fun j => X (r.emb j)) = Y)
    {k : (r.shape.Idx → Elt F e) → Prog (TpuEff nD τ sig (Elt F) Λ₀ .tc) α} {Q : α → sProp 𝕄}
    (H : R ⊢ WP c (k Y) Q) : R ⊢ WP c (Prog.lift (.load m r.toLoadRect hl) >>= k) Q := by
  subst hY
  refine hs.trans ?_
  iintro ⟨Ho, HR⟩
  iapply (wp_load_at (c : Thread nD τ) m q r hl X (k := k)) $$ [Ho]
  · iexact Ho
  iintro Ho
  iapply H
  iapply HR; iexact Ho

/-- A load of a piece lent out of what is held. -/
theorem load_piece {R : sProp 𝕄} {cs : CoreSpace} {s : Shape} {e : EltTy} {m : Memref sig .tc cs s e} {q : PosShare TreeShare}
    (r : Rect s) {hr : ∀ a, r.stride a = 1} {X : r.shape.Idx → Elt F e}
    (hs : R ⊢ iprop(owns (c : Thread nD τ) (m.slice r hr) q X ∗ (owns (c : Thread nD τ) (m.slice r hr) q X -∗ R)))
    {hl : m.view.LoadsAt r.toLoadRect}
    {k : (r.shape.Idx → Elt F e) → Prog (TpuEff nD τ sig (Elt F) Λ₀ .tc) α} {Q : α → sProp 𝕄}
    (H : R ⊢ WP c (k X) Q) : R ⊢ WP c (Prog.lift (.load m r.toLoadRect hl) >>= k) Q := by
  refine hs.trans ?_
  iintro ⟨Ho, HR⟩
  iapply (wp_load_slice (c : Thread nD τ) m q r hr hl X (k := k)) $$ [Ho]
  · iexact Ho
  iintro Ho
  iapply H
  iapply HR; iexact Ho

/-- A load of a piece at contents not known. -/
theorem load_any {R : sProp 𝕄} {cs : CoreSpace} {s : Shape} {e : EltTy} {m : Memref sig .tc cs s e}
    (r : Rect s) {hr : ∀ a, r.stride a = 1}
    (hs : R ⊢ iprop((∃ X, owns (c : Thread nD τ) (m.slice r hr) fullShare X) ∗ ((∃ X, owns (c : Thread nD τ) (m.slice r hr) fullShare X) -∗ R)))
    {hl : m.view.LoadsAt r.toLoadRect}
    {k : (r.shape.Idx → Elt F e) → Prog (TpuEff nD τ sig (Elt F) Λ₀ .tc) α} {Q : α → sProp 𝕄}
    (H : ∀ X, R ⊢ WP c (k X) Q) : R ⊢ WP c (Prog.lift (.load m r.toLoadRect hl) >>= k) Q := by
  refine hs.trans ?_
  iintro ⟨⟨%X, Ho⟩, HR⟩
  iapply (wp_load_slice (c : Thread nD τ) m fullShare r hr hl X (k := k)) $$ [Ho]
  · iexact Ho
  iintro Ho
  iapply H X
  iapply HR; iexists X; iexact Ho

/-- A store to a piece, whatever it held. -/
theorem store_piece {R : sProp 𝕄} {cs : CoreSpace} {s : Shape} {e : EltTy} {m : Memref sig .tc cs s e} {R' : sProp 𝕄}
    (r : Rect s) {hr : ∀ a, r.stride a = 1} {w : r.shape.Idx → Elt F e}
    (hs : R ⊢ iprop((∃ X, owns (c : Thread nD τ) (m.slice r hr) fullShare X) ∗ (owns (c : Thread nD τ) (m.slice r hr) fullShare w -∗ R')))
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄}
    (H : R' ⊢ WP c (k ⟨⟩) Q) : R ⊢ WP c (Prog.lift (.store m r w Finset.univ hx hm) >>= k) Q := by
  refine hs.trans ?_
  iintro ⟨⟨%X, Ho⟩, HR⟩
  iapply (wp_store_slice (c : Thread nD τ) m r hr X w hx hm (k := k)) $$ [Ho]
  · iexact Ho
  iintro Ho
  iapply H
  iapply HR; iexact Ho

/-- Lending from one component of what is held. -/
theorem lend_fst {A B T : sProp 𝕄} (h : A ⊢ iprop(T ∗ (T -∗ A))) : iprop(A ∗ B) ⊢ iprop(T ∗ (T -∗ iprop(A ∗ B))) := by
  iintro ⟨HA, HB⟩
  ihave HA := h $$ HA
  icases HA with ⟨HT, HA⟩
  isplitl [HT]; · iexact HT
  iintro HT
  isplitl [HA HT]; · iapply HA; iexact HT
  iexact HB
/-- A resource lent out of the second of two. -/
theorem lend_snd {A B T : sProp 𝕄} (h : B ⊢ iprop(T ∗ (T -∗ B))) : iprop(A ∗ B) ⊢ iprop(T ∗ (T -∗ iprop(A ∗ B))) := by
  iintro ⟨HA, HB⟩
  ihave HB := h $$ HB
  icases HB with ⟨HT, HB⟩
  isplitl [HT]; · iexact HT
  iintro HT
  isplitl [HA]; · iexact HA
  iapply HB; iexact HT
/-- A resource lent out of itself. -/
theorem lend_self {A : sProp 𝕄} : A ⊢ iprop(A ∗ (A -∗ A)) := by
  iintro H; isplitl [H]; · iexact H
  iintro H; iexact H

/-- A loaded head of a context: the column's dummy load, and the store of head `j`. -/
theorem ctx_load {R : sProp 𝕄} {X : Fin 8 → Vec F S512x64 .bf16} {j : ℕ} (hj : j < 8) {r : Rect S512x512} (hr : r = colRect ⟨j, hj⟩)
    {hl : A7.view.LoadsAt r.toLoadRect}
    {k : (r.shape.Idx → Elt F .bf16) → Prog (TpuEff nD τ sig (Elt F) Λ₀ .tc) α} {Q : α → sProp 𝕄}
    (H : ∀ Y, iprop(ctxS c X j ∗ R) ⊢ WP c (k Y) Q) : iprop(ctxS c X j ∗ R) ⊢ WP c (Prog.lift (.load A7 r.toLoadRect hl) >>= k) Q := by
  subst hr
  exact load_any c (colRect ⟨j, hj⟩) (hr := fun _ => rfl) (lend_fst (fam_next _ _ hj)) H
/-- One head's context stored in its columns. -/
theorem ctx_store {R : sProp 𝕄} {X : Fin 8 → Vec F S512x64 .bf16} {j : ℕ} (hj : j < 8) {r : Rect S512x512} (hr : r = colRect ⟨j, hj⟩)
    {w : r.shape.Idx → Elt F .bf16} (hw : HEq w (X ⟨j, hj⟩))
    {hx : (A7.access r).Stores Finset.univ} {hm : (Finset.univ : Finset r.shape.Idx) = Finset.univ ∨ ∀ a, r.stride a = 1}
    {k : PUnit → Prog (TpuEff nD τ sig (Elt F) Λ₀ .tc) α} {Q : α → sProp 𝕄}
    (H : iprop(ctxS c X (j + 1) ∗ R) ⊢ WP c (k ⟨⟩) Q) : iprop(ctxS c X j ∗ R) ⊢ WP c (Prog.lift (.store A7 r w Finset.univ hx hm) >>= k) Q := by
  subst hr
  have hw := eq_of_heq hw; subst hw
  refine store_piece c (colRect ⟨j, hj⟩) (hr := fun _ => rfl) ?_ H
  iintro ⟨HS, HR⟩
  ihave HS := (show ctxS c X j ⊢ iprop(_ ∗ (_ -∗ ctxS c X (j + 1))) from fam_peel _ _ hj) $$ HS
  icases HS with ⟨Ho, HS⟩
  isplitl [Ho]; · iexact Ho
  iintro Ho
  isplitl [HS Ho]; · iapply HS; iexact Ho
  iexact HR

/-- A load of the slot last received. -/
theorem rs_load {R : sProp 𝕄} {O : CellTallies nD τ sig Unit} (b : Fin 2) {j : ℕ} (hj : j < 8) {r : Rect S2x8x64x768} (hr : r = slotRect b ⟨j, hj⟩)
    {hl : A8.view.LoadsAt r.toLoadRect}
    {k : (r.shape.Idx → Elt F .bf16) → Prog (TpuEff nD τ sig (Elt F) Λ₀ .tc) α} {Q : α → sProp 𝕄} {Y : r.shape.Idx → Elt F .bf16}
    (hY : HEq Y (slotUp (chunk c (P ⟨j, hj⟩ b))))
    (H : iprop(recs P K c ∗ ow (F := F) c O ∗ wS P c 1 b (j + 1) ∗ R) ⊢ WP c (k Y) Q) :
    iprop(recs P K c ∗ ow (F := F) c O ∗ wS P c 1 b (j + 1) ∗ R) ⊢ WP c (Prog.lift (.load A8 r.toLoadRect hl) >>= k) Q := by
  subst hr
  have hY := eq_of_heq hY; subst hY
  refine load_piece (q := fullShare) c (slotRect b ⟨j, hj⟩) (hr := fun _ => rfl) (lend_snd (lend_snd (lend_fst ?_))) H
  have hf : wS P c 1 b (j + 1) ⊢ (iprop((semVal (dcell c 1 b ⟨j, hj⟩) 0 ∗ owns (c : Thread nD τ) (rsSlot b ⟨j, hj⟩) fullShare (chunk c (P ⟨j, hj⟩ b)))
      ∗ ((semVal (dcell c 1 b ⟨j, hj⟩) 0 ∗ owns (c : Thread nD τ) (rsSlot b ⟨j, hj⟩) fullShare (chunk c (P ⟨j, hj⟩ b))) -∗ wS P c 1 b (j + 1))) : sProp 𝕄) := fam_last _ _ hj
  refine hf.trans ?_
  iintro ⟨⟨Hv, Hp⟩, HS⟩
  rw [← owns_slot c A8]
  isplitl [Hp]; · iexact Hp
  iintro Hp; iapply HS
  isplitl [Hv]; · iexact Hv
  iexact Hp
/-- One slot of the gathered chunks loaded. -/
theorem ag_load {R : sProp 𝕄} {O : CellTallies nD τ sig Unit} (b : Fin 2) {j : ℕ} (hj : j < 8) {r : Rect S2x8x64x768} (hr : r = slotRect b ⟨j, hj⟩)
    {hl : A9.view.LoadsAt r.toLoadRect}
    {k : (r.shape.Idx → Elt F .bf16) → Prog (TpuEff nD τ sig (Elt F) Λ₀ .tc) α} {Q : α → sProp 𝕄} {Y : r.shape.Idx → Elt F .bf16}
    (hY : HEq Y (slotUp (red P ⟨j, hj⟩ b)))
    (H : iprop(recs P K c ∗ ow (F := F) c O ∗ wS P c 3 b (j + 1) ∗ R) ⊢ WP c (k Y) Q) :
    iprop(recs P K c ∗ ow (F := F) c O ∗ wS P c 3 b (j + 1) ∗ R) ⊢ WP c (Prog.lift (.load A9 r.toLoadRect hl) >>= k) Q := by
  subst hr
  have hY := eq_of_heq hY; subst hY
  refine load_piece (q := fullShare) c (slotRect b ⟨j, hj⟩) (hr := fun _ => rfl) (lend_snd (lend_snd (lend_fst ?_))) H
  have hf : wS P c 3 b (j + 1) ⊢ (iprop((semVal (dcell c 3 b ⟨j, hj⟩) 0 ∗ owns (c : Thread nD τ) (agSlot b ⟨j, hj⟩) fullShare (red P ⟨j, hj⟩ b))
      ∗ ((semVal (dcell c 3 b ⟨j, hj⟩) 0 ∗ owns (c : Thread nD τ) (agSlot b ⟨j, hj⟩) fullShare (red P ⟨j, hj⟩ b)) -∗ wS P c 3 b (j + 1))) : sProp 𝕄) := fam_last _ _ hj
  refine hf.trans ?_
  iintro ⟨⟨Hv, Hp⟩, HS⟩
  rw [← owns_slot c A9]
  isplitl [Hp]; · iexact Hp
  iintro Hp; iapply HS
  isplitl [Hv]; · iexact Hv
  iexact Hp

/-- The result's rows: the dummy load, and the store of block `j`. -/
theorem out_load {R : sProp 𝕄} {A B C : sProp 𝕄} {a5 : Memref sig .tc .vmem S1024x768 .f32} {b : Fin 2} {j : ℕ} (hj : j < 8) {r : Rect S1024x768} (hr : r = chunkRect b ⟨j, hj⟩)
    {hl : a5.view.LoadsAt r.toLoadRect}
    {k : (r.shape.Idx → Elt F .f32) → Prog (TpuEff nD τ sig (Elt F) Λ₀ .tc) α} {Q : α → sProp 𝕄}
    (H : ∀ Y, iprop(A ∗ B ∗ C ∗ outS P c a5 b j ∗ R) ⊢ WP c (k Y) Q) :
    iprop(A ∗ B ∗ C ∗ outS P c a5 b j ∗ R) ⊢ WP c (Prog.lift (.load a5 r.toLoadRect hl) >>= k) Q := by
  subst hr
  exact load_any c (chunkRect b ⟨j, hj⟩) (hr := fun _ => rfl) (lend_snd (lend_snd (lend_snd (lend_fst (fam_next _ _ hj))))) H
/-- One chunk of the result stored in its rows. -/
theorem out_store {R : sProp 𝕄} {A B C : sProp 𝕄} {a5 : Memref sig .tc .vmem S1024x768 .f32} {b : Fin 2} {j : ℕ} (hj : j < 8) {r : Rect S1024x768} (hr : r = chunkRect b ⟨j, hj⟩)
    {w : r.shape.Idx → Elt F .f32} (hw : HEq w (outVal (red P ⟨j, hj⟩ b)))
    {hx : (a5.access r).Stores Finset.univ} {hm : (Finset.univ : Finset r.shape.Idx) = Finset.univ ∨ ∀ a, r.stride a = 1}
    {k : PUnit → Prog (TpuEff nD τ sig (Elt F) Λ₀ .tc) α} {Q : α → sProp 𝕄}
    (H : iprop(A ∗ B ∗ C ∗ outS P c a5 b (j + 1) ∗ R) ⊢ WP c (k ⟨⟩) Q) :
    iprop(A ∗ B ∗ C ∗ outS P c a5 b j ∗ R) ⊢ WP c (Prog.lift (.store a5 r w Finset.univ hx hm) >>= k) Q := by
  subst hr
  have hw := eq_of_heq hw; subst hw
  refine store_piece c (chunkRect b ⟨j, hj⟩) (hr := fun _ => rfl) ?_ H
  iintro ⟨HA, HB, HC, HS, HR⟩
  ihave HS := (show outS P c a5 b j ⊢ iprop(_ ∗ (_ -∗ outS P c a5 b (j + 1))) from fam_peel _ _ hj) $$ HS
  icases HS with ⟨Ho, HS⟩
  isplitl [Ho]; · iexact Ho
  iintro Ho
  isplitl [HA]; · iexact HA
  isplitl [HB]; · iexact HB
  isplitl [HC]; · iexact HC
  isplitl [HS Ho]; · iapply HS; iexact Ho
  iexact HR

end Cert.KernelIdeal.Talk
-- ==== Proof.Facts.lean ====
/-
  The kernel's own views and semaphores named as the protocol names them.
-/
module

public import proofs.«01_k».proof.Proof.Bundles

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A slot addressed by any offset that names it. -/
theorem slot_of (m : Memref sig .tc .vmem S2x8x64x768 .bf16) {off : Fin 4 → ℕ} {b : Fin 2} {k : Fin 8} (h : off = ![b.val, k.val, 0, 0])
    (inb : ∀ a, off a + S1x1x64x768.size a ≤ S2x8x64x768.size a) :
    (m.slice (Rect.unit (s := S2x8x64x768) off S1x1x64x768.size inb) (fun _ => rfl)).squeeze S64x768 squeezes_S1x1x64x768_S64x768
      = (m.slice (slotRect b k) (fun _ => rfl)).squeeze S64x768 squeezes_S1x1x64x768_S64x768 := by
  subst h; rfl

/-- Each of the sixteen semaphores of a family lies in its array. -/
theorem sem_inb (n : Fin 16) : ∀ a, (![n.val] : Fin 1 → ℕ) a + S1.size a ≤ S16.size a := by
  revert n; decide
/-- Element `n` of a semaphore array of sixteen, addressed by any offset that names it. -/
theorem sem_of (base : ℕ) (hb : base + S16.numel ≤ 70) {off : Fin 1 → ℕ} {n : ℕ} (h : off = ![n]) (inb : ∀ a, off a + S1.size a ≤ S16.size a) :
    (((SemArray.consecutive base S16 hb : DmaSems sig S16).slice (Rect.unit (s := S16) off S1.size inb)).squeeze S_ squeezes_S1_S_).sem.val = base + n := by
  subst h
  show base + _ = base + n
  congr 1
  have hn : n < 16 := by have := inb 0; simp at this; omega
  have key : ∀ n : Fin 16, (S16.rowMajor ((Rect.unit (s := S16) ![n.val] S1.size (sem_inb n)).emb
      ((Shape.reshapeEquiv squeezes_S1_S_.numel_eq) fun i => i.elim0))).val = n.val := by decide
  exact key ⟨n, hn⟩

/-- A copy into a slot credits one chunk's bytes. -/
theorem credit_slot (m : Memref sig .tc .vmem S2x8x64x768 .bf16) (b : Fin 2) (k : Fin 8) :
    ((m.slice (slotRect b k) (fun _ => rfl)).squeeze S64x768 squeezes_S1x1x64x768_S64x768).view.dmaCredit = N := rfl
/-- Any copy of a chunk's shape credits one chunk's bytes. -/
theorem credit_any {sp : Space} (m : Memref sig .tc sp S64x768 .bf16) : m.view.dmaCredit = N := rfl

/-- The send semaphore of a reduce-scatter copy, by its number in the family. -/
theorem sem_rs_send (b : Fin 2) (k : Fin 8) {off : Fin 1 → ℕ} (h : off = ![8 * b.val + k.val]) (inb : ∀ a, off a + S1.size a ≤ S16.size a) :
    ((cc0_scratch5.slice (Rect.unit (s := S16) off S1.size inb)).squeeze S_ squeezes_S1_S_).sem = dsem 0 b k :=
  Fin.ext ((sem_of _ _ h inb).trans (by show _ = 6 + 16 * 0 + 8 * b.val + k.val; omega))
/-- The receive semaphore of a reduce-scatter copy, by its number in the family. -/
theorem sem_rs_recv (b : Fin 2) (k : Fin 8) {off : Fin 1 → ℕ} (h : off = ![8 * b.val + k.val]) (inb : ∀ a, off a + S1.size a ≤ S16.size a) :
    ((cc0_scratch6.slice (Rect.unit (s := S16) off S1.size inb)).squeeze S_ squeezes_S1_S_).sem = dsem 1 b k :=
  Fin.ext ((sem_of _ _ h inb).trans (by show _ = 6 + 16 * 1 + 8 * b.val + k.val; omega))
/-- The send semaphore of an all-gather copy, by its number in the family. -/
theorem sem_ag_send (b : Fin 2) (k : Fin 8) {off : Fin 1 → ℕ} (h : off = ![8 * b.val + k.val]) (inb : ∀ a, off a + S1.size a ≤ S16.size a) :
    ((cc0_scratch7.slice (Rect.unit (s := S16) off S1.size inb)).squeeze S_ squeezes_S1_S_).sem = dsem 2 b k :=
  Fin.ext ((sem_of _ _ h inb).trans (by show _ = 6 + 16 * 2 + 8 * b.val + k.val; omega))
/-- The receive semaphore of an all-gather copy, by its number in the family. -/
theorem sem_ag_recv (b : Fin 2) (k : Fin 8) {off : Fin 1 → ℕ} (h : off = ![8 * b.val + k.val]) (inb : ∀ a, off a + S1.size a ≤ S16.size a) :
    ((cc0_scratch8.slice (Rect.unit (s := S16) off S1.size inb)).squeeze S_ squeezes_S1_S_).sem = dsem 3 b k :=
  Fin.ext ((sem_of _ _ h inb).trans (by show _ = 6 + 16 * 3 + 8 * b.val + k.val; omega))

/-! ## Values -/

/-- A head of a batch lies in the array of keys and in that of values. -/
theorem head_inb (b : Fin 2) (h : Fin 8) : ∀ a, (![8 * b.val + h.val, 0, 0] : Fin 3 → ℕ) a + S1x512x64.size a ≤ S16x512x64.size a := by
  revert b h; decide
/-- The keys (or values) of one head of one half. -/
abbrev headRect (b : Fin 2) (h : Fin 8) : Rect S16x512x64 := Rect.unit (s := S16x512x64) ![8 * b.val + h.val, 0, 0] S1x512x64.size (head_inb b h)
/-- One head of a batch, cut out of the keys or the values. -/
def headOf (b : Fin 2) (h : Fin 8) (X : Vec F S16x512x64 .bf16) : Vec F S1x512x64 .bf16 := fun j => X ((headRect b h).emb j)

/-- A head's columns of a batch's rows lie in the queries. -/
theorem head_slices (b : Fin 2) (h : Fin 8) : S1024x512.Slices ![512 * b.val, 64 * h.val] S512x64 := by
  revert b h; decide
/-- The context of one head of one half: what the kernel stores in the head's columns. -/
def headVal (b : Fin 2) (h : Fin 8) (Q : Vec F S1024x512 .bf16) (K V : Vec F S16x512x64 .bf16) : Vec F S512x64 .bf16 :=
  k0_pay5 k0_pay2
    (exp (matmul dot_S512x64_S512x64_S512x512_1_1_0_0_n_n none (extractStridedSlice S512x64 ![512 * b.val, 64 * h.val] Q (head_slices b h))
      (shapeCast S512x64 (headOf b h K) shapeCasts_S1x512x64_S512x64) (constant S512x512 .f32 0x00000000#32)))
    k0_pay4 (headOf b h V)

/-- One device's partial product of one half. -/
def partOf (b : Fin 2) (X : Vec F S1024x768 .bf16) (Wq : Vec F S768x512 .bf16) (K V : Vec F S16x512x64 .bf16) (Wo : Vec F S512x768 .bf16) : Vec F S512x768 .bf16 :=
  k0_pay22 (ctxOf fun h => headVal b h (k0_pay1 X Wq) K V) Wo

end Cert.KernelIdeal.Talk
-- ==== Proof.States.lean ====
/-
  What a device holds between the phases of its work, and how one phase's leavings become the next one's means.
-/
module

public import proofs.«01_k».proof.Proof.Facts

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families put together and taken apart -/

/-- Two families, joined member by member. -/
theorem zip2 {ι : Type} (s : Finset ι) (Φ Ψ : ι → sProp 𝕄) : iprop(bigSep s Φ ∗ bigSep s Ψ) ⊢ (bigSep s fun i => iprop(Φ i ∗ Ψ i) : sProp 𝕄) := by
  rw [bigSep_sep' s Φ Ψ]
/-- A family of pairs, parted. -/
theorem unzip2 {ι : Type} (s : Finset ι) (Φ Ψ : ι → sProp 𝕄) : (bigSep s fun i => iprop(Φ i ∗ Ψ i) : sProp 𝕄) ⊢ iprop(bigSep s Φ ∗ bigSep s Ψ) := by
  rw [bigSep_sep' s Φ Ψ]
/-- A family over two. -/
theorem two (Φ : Fin 2 → sProp 𝕄) : (bigSep Finset.univ Φ : sProp 𝕄) = iprop(Φ 0 ∗ Φ 1) := bigSep_fin_two Φ
/-- A family over eight: the first and the seven others. -/
theorem eight (Φ : Fin 8 → sProp 𝕄) : (bigSep Finset.univ Φ : sProp 𝕄) = iprop(Φ 0 ∗ bigSep (Finset.univ : Finset (Fin 7)) fun i => Φ i.succ) := by
  rw [show (Finset.univ : Finset (Fin 8)) = insert 0 ((Finset.univ : Finset (Fin 7)).map (Fin.succEmb 7)) by decide,
    bigSep_ins (by decide), bigSep_map]; rfl

/-- The devices, counted from device `c` on. -/
def peEquiv (c : Dev nD) : Fin 8 ≃ Dev nD := Equiv.ofBijective (pe c) (Finite.injective_iff_bijective.mp (by
  have : ∀ (c : Dev nD) (a b : Fin 8), pe c a = pe c b → a = b := by decide
  exact this c))
/-- The peer at offset zero is the device itself. -/
theorem pe_zero (c : Dev nD) : pe c 0 = c := by revert c; decide
/-- A family over the devices, counted from device `c` on. -/
theorem around (c : Dev nD) (Φ : Dev nD → sProp 𝕄) : (bigSep Finset.univ Φ : sProp 𝕄) = bigSep (Finset.univ : Finset (Fin 8)) fun d => Φ (pe c d) :=
  bigSep_univ_equiv (peEquiv c) Φ

variable (P : Dev nD → Fin 2 → Vec F S512x768 .bf16) (K : GSem nD τ sig → ℕ) (c : Dev nD)

/-! ## What is held -/

/-- The tokens with which a device pays its reduce-scatter copies of a batch. -/
def rsT (b : Fin 2) : sProp 𝕄 := bigSep (Finset.univ : Finset (Fin 8)) fun k =>
  iprop(dutyTok (ER (F := F)) (dcell k 1 b c) 0 0 ∗ dutyTok (ER (F := F)) (dcell c 0 b k) 0 0)
/-- The tokens with which a device pays its all-gather copies of a batch. -/
def agT (b : Fin 2) : sProp 𝕄 := bigSep (Finset.univ : Finset (Fin 8)) fun d =>
  iprop(dutyTok (ER (F := F)) (dcell (pe c d) 3 b c) 0 0 ∗ dutyTok (ER (F := F)) (dcell c 2 b d) 0 0)
/-- A device's positions at a family's cells of a batch. -/
def posn (f : Fin 4) (b : Fin 2) : sProp 𝕄 := bigSep (Finset.univ : Finset (Fin 8)) fun k => atPos (ER (F := F)) (dcell c f b k) 0 ∅ 0
/-- A device's credits at a family's cells of a batch. -/
def crd (f : Fin 4) (b : Fin 2) : sProp 𝕄 := bigSep (Finset.univ : Finset (Fin 8)) fun k => cred (tallyAt (dcell c f b k) () N)
/-- The tokens with which a device signals its peers. -/
def sigT : sProp 𝕄 := bigSep (Finset.univ : Finset (Fin 7)) fun i => dutyTok (ER (F := F)) (barCell (pe c i.succ)) 0 c
/-- A device's position and credit at its barrier. -/
def barT : sProp 𝕄 := iprop(atPos (ER (F := F)) (barCell c) 0 ∅ 0 ∗ cred (tallyAt (barCell c) () 7))
/-- A batch's partial product, with any contents. -/
def halfAny (b : Fin 2) : sProp 𝕄 := iprop(∃ Y, owns (c : Thread nD τ) (A6.slice (halfRect b) (fun _ => rfl)) fullShare Y)
/-- A batch's reduced chunk, with any contents. -/
def planeAny (b : Fin 2) : sProp 𝕄 := iprop(∃ Y, owns (c : Thread nD τ) (A10.slice (planeRect b) (fun _ => rfl)) fullShare Y)
/-- The context, with any contents. -/
def a7Any : sProp 𝕄 := iprop(∃ Y, owns (c : Thread nD τ) A7 fullShare Y)
/-- The slots of the peers that the reduce-scatter of a batch copies into. -/
def gR (b : Fin 2) : sProp 𝕄 := bigSep (Finset.univ : Finset (Fin 8)) fun k : Fin 8 =>
  iprop((∃ Y, owns ((k : Dev nD) : Thread nD τ) (rsSlot b c) fullShare Y) ∗ reached (ER (F := F)) (dcell k 1 b c) 0)
/-- The slots of the peers that the all-gather of a batch copies into. -/
def gA (b : Fin 2) : sProp 𝕄 := bigSep (Finset.univ : Finset (Fin 8)) fun d : Fin 8 =>
  iprop((∃ Y, owns ((pe c d) : Thread nD τ) (agSlot b c) fullShare Y) ∗ reached (ER (F := F)) (dcell (pe c d) 3 b c) 0)
/-- The share of a reduced chunk that no copy borrows. -/
def remn (b : Fin 2) : sProp 𝕄 := owns (c : Thread nD τ) (redPlane b) (Transfers.shareDrop fullShare 8) (red P c b)

/-- The tokens and places of one half. -/
def tokB (b : Fin 2) : sProp 𝕄 :=
  iprop(rsT (F := F) c b ∗ agT (F := F) c b ∗ posn (F := F) c 0 b ∗ posn (F := F) c 1 b ∗ posn (F := F) c 2 b ∗ posn (F := F) c 3 b
    ∗ crd (F := F) c 1 b ∗ crd (F := F) c 3 b)
/-- All the tokens and places device `c` starts with. -/
def toks : sProp 𝕄 := iprop(sigT (F := F) c ∗ barT (F := F) c ∗ tokB (F := F) c 0 ∗ tokB (F := F) c 1)
/-- The scratch buffers, at any contents. -/
def scratch : sProp 𝕄 :=
  iprop((∃ X, owns (c : Thread nD τ) A6 fullShare X) ∗ a7Any (F := F) c ∗ (∃ X, owns (c : Thread nD τ) A8 fullShare X)
    ∗ (∃ X, owns (c : Thread nD τ) A9 fullShare X) ∗ (∃ X, owns (c : Thread nD τ) A10 fullShare X))
/-- The cells, all back at zero. -/
def zeros : sProp 𝕄 := iprop(semVal (barCell c) 0 ∗ bigSep (Finset.univ : Finset CIx) fun x => semVal (cellAt c x) 0)

variable (a0 : Memref sig .tc .vmem S1024x768 .bf16) (a1 : Memref sig .tc .vmem S768x512 .bf16) (a2 a3 : Memref sig .tc .vmem S16x512x64 .bf16)
  (a4 : Memref sig .tc .vmem S512x768 .bf16) (a5 : Memref sig .tc .vmem S1024x768 .f32)
  (x0 : Vec F S1024x768 .bf16) (x1 : Vec F S768x512 .bf16) (x2 x3 : Vec F S16x512x64 .bf16) (x4 : Vec F S512x768 .bf16)

/-- The operands, in their windows. -/
def wins : sProp 𝕄 :=
  iprop(owns (c : Thread nD τ) a0 fullShare x0 ∗ owns (c : Thread nD τ) a1 fullShare x1 ∗ owns (c : Thread nD τ) a2 fullShare x2
    ∗ owns (c : Thread nD τ) a3 fullShare x3 ∗ owns (c : Thread nD τ) a4 fullShare x4)

/-- The input's window, lent out of the five. -/
theorem win0 : wins c a0 a1 a2 a3 a4 x0 x1 x2 x3 x4 ⊢ iprop(owns (c : Thread nD τ) a0 fullShare x0 ∗ (owns (c : Thread nD τ) a0 fullShare x0 -∗ wins c a0 a1 a2 a3 a4 x0 x1 x2 x3 x4)) :=
  lend_fst lend_self
/-- The query weights' window, lent out of the five. -/
theorem win1 : wins c a0 a1 a2 a3 a4 x0 x1 x2 x3 x4 ⊢ iprop(owns (c : Thread nD τ) a1 fullShare x1 ∗ (owns (c : Thread nD τ) a1 fullShare x1 -∗ wins c a0 a1 a2 a3 a4 x0 x1 x2 x3 x4)) :=
  lend_snd (lend_fst lend_self)
/-- The keys' window, lent out of the five. -/
theorem win2 : wins c a0 a1 a2 a3 a4 x0 x1 x2 x3 x4 ⊢ iprop(owns (c : Thread nD τ) a2 fullShare x2 ∗ (owns (c : Thread nD τ) a2 fullShare x2 -∗ wins c a0 a1 a2 a3 a4 x0 x1 x2 x3 x4)) :=
  lend_snd (lend_snd (lend_fst lend_self))
/-- The values' window, lent out of the five. -/
theorem win3 : wins c a0 a1 a2 a3 a4 x0 x1 x2 x3 x4 ⊢ iprop(owns (c : Thread nD τ) a3 fullShare x3 ∗ (owns (c : Thread nD τ) a3 fullShare x3 -∗ wins c a0 a1 a2 a3 a4 x0 x1 x2 x3 x4)) :=
  lend_snd (lend_snd (lend_snd (lend_fst lend_self)))
/-- The output weights' window, lent out of the five. -/
theorem win4 : wins c a0 a1 a2 a3 a4 x0 x1 x2 x3 x4 ⊢ iprop(owns (c : Thread nD τ) a4 fullShare x4 ∗ (owns (c : Thread nD τ) a4 fullShare x4 -∗ wins c a0 a1 a2 a3 a4 x0 x1 x2 x3 x4)) :=
  lend_snd (lend_snd (lend_snd (lend_snd lend_self)))

/-- What the reduce-scatter of half `b` waits for. -/
def blkB (b : Fin 2) : sProp 𝕄 := iprop(halfAny (F := F) c b ∗ rsT (F := F) c b ∗ gR (F := F) c b)
/-- What the all-gather of half `b` waits for. -/
def blkC (b : Fin 2) : sProp 𝕄 := iprop(planeAny (F := F) c b ∗ agT (F := F) c b ∗ gA (F := F) c b)
/-- The places of half `b` and the rows of the result. -/
def blkW (b : Fin 2) : sProp 𝕄 :=
  iprop(posn (F := F) c 0 b ∗ posn (F := F) c 2 b ∗ wS P c 1 b 0 ∗ wS P c 3 b 0 ∗ outS P c a5 b 0)
/-- What the body needs for one batch. -/
def blkT (b : Fin 2) : sProp 𝕄 := iprop(tokB (F := F) c b ∗ halfAny (F := F) c b ∗ planeAny (F := F) c b ∗ outS P c a5 b 0)

/-! ## From the start to the barrier -/

/-- Device `c`'s slots, as what it gives the devices. -/
theorem give_all : iprop(recs P K c ∗ ((∃ X, owns (c : Thread nD τ) A8 fullShare X) ∗ (∃ X, owns (c : Thread nD τ) A9 fullShare X)))
    ⊢ (bigSep (Finset.univ : Finset (Dev nD)) fun d => give d c : sProp 𝕄) := by
  have h8 := (slots (F := F) c A8).1
  have h9 := (slots (F := F) c A9).1
  rw [bigSep_univ_comm] at h8 h9
  refine (show _ ⊢ iprop(recs P K c ∗ bigSep (Finset.univ : Finset (Fin 8)) fun k =>
    iprop((bigSep Finset.univ fun b : Fin 2 => iprop(∃ Y, owns (c : Thread nD τ) (rsSlot b k) fullShare Y))
      ∗ (bigSep Finset.univ fun b : Fin 2 => iprop(∃ Y, owns (c : Thread nD τ) (agSlot b k) fullShare Y)))) from ?_).trans
    (bigSep_with_persistent fun k _ => ?_)
  · iintro ⟨Hr, H8, H9⟩
    isplitl [Hr]; · iexact Hr
    iapply (zip2 (F := F) Finset.univ)
    isplitl [H8]
    · iapply h8; iexact H8
    · iapply h9; iexact H9
  · unfold give
    rw [two, two, two]
    iintro ⟨#Hr, ⟨H0, H1⟩, ⟨G0, G1⟩⟩
    isplitl [H0 G0]
    · isplitl [H0]
      · isplitl [H0]; · iexact H0
        iapply (recs_dma P K c 1 0 k); iexact Hr
      · isplitl [G0]; · iexact G0
        iapply (recs_dma P K c 3 0 k); iexact Hr
    · isplitl [H1]
      · isplitl [H1]; · iexact H1
        iapply (recs_dma P K c 1 1 k); iexact Hr
      · isplitl [G1]; · iexact G1
        iapply (recs_dma P K c 3 1 k); iexact Hr

/-- Before the signals: the device's slots, cut up for its peers, and those that it keeps for itself. -/
theorem sig_start : iprop(recs P K c ∗ sigT (F := F) c ∗ (∃ X, owns (c : Thread nD τ) A8 fullShare X) ∗ (∃ X, owns (c : Thread nD τ) A9 fullShare X))
    ⊢ iprop(sigS (F := F) c 0 ∗ give c c) := by
  unfold sigT
  have h := give_all P K c
  rw [around c, eight, pe_zero] at h
  iintro ⟨Hr, Ht, H8, H9⟩
  ihave Hg := h $$ [Hr H8 H9]
  · isplitl [Hr]; · iexact Hr
    isplitl [H8]; · iexact H8
    iexact H9
  icases Hg with ⟨Hg, Hs⟩
  isplitr [Hg]
  · iapply (show _ ⊢ sigS (F := F) c 0 from fam_start _ _)
    iapply (zip2 (F := F) Finset.univ)
    isplitl [Ht]; · iexact Ht
    iexact Hs
  · iexact Hg

/-- The result's rows, cut into the chunks of the two batches. -/
theorem out_rows : iprop(∃ X, owns (c : Thread nD τ) a5 fullShare X) ⊢ iprop(outS P c a5 0 0 ∗ outS P c a5 1 0) := by
  have h := (any_rects (F := F) (c : Thread nD τ) a5 chunkRects (fun _ _ => rfl) chunk_disj chunk_cov).1
  rw [bigSep_univ_prod, two] at h
  refine h.trans ?_
  iintro ⟨H0, H1⟩
  isplitl [H0]
  · iapply (show _ ⊢ outS P c a5 0 0 from fam_start _ _); iexact H0
  · iapply (show _ ⊢ outS P c a5 1 0 from fam_start _ _); iexact H1

/-- The start, set out for the barrier signals. -/
theorem tr_start : iprop(recs P K c ∗ ow (F := F) c (O₀ c) ∗ toks (F := F) c ∗ wins c a0 a1 a2 a3 a4 x0 x1 x2 x3 x4
      ∗ (∃ X, owns (c : Thread nD τ) a5 fullShare X) ∗ scratch (F := F) c)
    ⊢ iprop(recs P K c ∗ ow (F := F) c (obar c 0 + (ors c 0 0 + (ors c 1 0 + O1 c))) ∗ sigS (F := F) c 0
      ∗ (barT (F := F) c ∗ give c c ∗ wins c a0 a1 a2 a3 a4 x0 x1 x2 x3 x4 ∗ a7Any (F := F) c ∗ blkT P c a5 0 ∗ blkT P c a5 1)) := by
  unfold toks scratch blkT halfAny planeAny
  have h6 := (pst_halves (F := F) c).1
  have h10 := (red_planes (F := F) c).1
  rw [two] at h6 h10
  iintro ⟨#Hr, HO, ⟨Hsig, Hbar, HT0, HT1⟩, Hw, H5, H6, H7, H8, H9, H10⟩
  ihave Hs := (sig_start P K c) $$ [Hsig H8 H9]
  · isplitr; · iexact Hr
    isplitl [Hsig]; · iexact Hsig
    isplitl [H8]; · iexact H8
    iexact H9
  icases Hs with ⟨Hs, Hg⟩
  ihave H6 := h6 $$ H6
  icases H6 with ⟨H60, H61⟩
  ihave H10 := h10 $$ H10
  icases H10 with ⟨H100, H101⟩
  ihave H5 := (out_rows P c a5) $$ H5
  icases H5 with ⟨H50, H51⟩
  isplitr; · iexact Hr
  isplitl [HO]; · iexact HO
  isplitl [Hs]; · iexact Hs
  isplitl [Hbar]; · iexact Hbar
  isplitl [Hg]; · iexact Hg
  isplitl [Hw]; · iexact Hw
  isplitl [H7]; · iexact H7
  isplitl [HT0 H60 H100 H50]
  · isplitl [HT0]; · iexact HT0
    isplitl [H60]; · iexact H60
    isplitl [H100]; · iexact H100
    iexact H50
  · isplitl [HT1]; · iexact HT1
    isplitl [H61]; · iexact H61
    isplitl [H101]; · iexact H101
    iexact H51

/-- The signals done, set out for the barrier wait. -/
theorem tr_sig {O : CellTallies nD τ sig Unit} {R : sProp 𝕄} : iprop(recs P K c ∗ ow (F := F) c (obar c 7 + O) ∗ sigS (F := F) c 7 ∗ (barT (F := F) c ∗ R))
    ⊢ iprop(recs P K c ∗ ow (F := F) c O ∗ (atPos (ER (F := F)) (barCell c) 0 ∅ 0 ∗ cred (tallyAt (barCell c) () 7)) ∗ R) := by
  rw [obar_top, zero_add]; unfold barT
  iintro ⟨Hr, HO, -, Hb, HR⟩
  isplitl [Hr]; · iexact Hr
  isplitl [HO]; · iexact HO
  isplitl [Hb]; · iexact Hb
  iexact HR

/-- What every device gives `c`, as the targets of the two halves' copies. -/
theorem gifts : iprop((bigSep (Finset.univ.erase c) fun d => give c d) ∗ give c c)
    ⊢ (iprop((gR (F := F) c 0 ∗ gR (F := F) c 1) ∗ (gA (F := F) c 0 ∗ gA (F := F) c 1)) : sProp 𝕄) := by
  have h : (bigSep Finset.univ fun d => give c d : sProp 𝕄) = iprop(give c c ∗ bigSep (Finset.univ.erase c) fun d => give c d) := bigSep_univ_split c
  refine (show _ ⊢ (bigSep Finset.univ fun d => give c d : sProp 𝕄) from ?_).trans ?_
  · rw [h]; iintro ⟨H, G⟩; isplitl [G]; · iexact G
    iexact H
  · unfold give gR gA
    rw [bigSep_univ_comm, two]
    have hz (b : Fin 2) := unzip2 (F := F) (Finset.univ : Finset (Dev nD))
      (fun d => iprop((∃ X, owns (d : Thread nD τ) (rsSlot b c) fullShare X) ∗ reached (ER (F := F)) (dcell d 1 b c) 0))
      (fun d => iprop((∃ X, owns (d : Thread nD τ) (agSlot b c) fullShare X) ∗ reached (ER (F := F)) (dcell d 3 b c) 0))
    iintro ⟨H0, H1⟩
    ihave H0 := (hz 0) $$ H0
    ihave H1 := (hz 1) $$ H1
    icases H0 with ⟨H0, G0⟩
    icases H1 with ⟨H1, G1⟩
    ihave G0 := (Entails.of_eq (around c _)) $$ G0
    ihave G1 := (Entails.of_eq (around c _)) $$ G1
    isplitl [H0 H1]
    · isplitl [H0]; · iexact H0
      iexact H1
    · isplitl [G0]; · iexact G0
      iexact G1

/-- Before a family's waits: positions and credits. -/
theorem w_start (f : Fin 4) (b : Fin 2) : iprop(posn (F := F) c f b ∗ crd (F := F) c f b) ⊢ wS P c f b 0 := by
  unfold posn crd
  exact (zip2 (F := F) Finset.univ _ _).trans (fam_start _ _)

/-- One half's tokens and buffers, and what it was given, sorted by the phases that use them. -/
theorem sort_half (b : Fin 2) : iprop(blkT P c a5 b ∗ gR (F := F) c b ∗ gA (F := F) c b) ⊢ iprop(blkB (F := F) c b ∗ blkC (F := F) c b ∗ blkW P c a5 b) := by
  unfold blkT blkB blkC blkW tokB
  iintro ⟨⟨⟨Hrs, Hag, Hp0, Hp1, Hp2, Hp3, Hc1, Hc3⟩, Hh, Hpl, Ho⟩, HgR, HgA⟩
  isplitl [Hh Hrs HgR]
  · isplitl [Hh]; · iexact Hh
    isplitl [Hrs]; · iexact Hrs
    iexact HgR
  isplitl [Hpl Hag HgA]
  · isplitl [Hpl]; · iexact Hpl
    isplitl [Hag]; · iexact Hag
    iexact HgA
  isplitl [Hp0]; · iexact Hp0
  isplitl [Hp2]; · iexact Hp2
  isplitl [Hp1 Hc1]
  · iapply (w_start P c 1 b); isplitl [Hp1]; · iexact Hp1
    iexact Hc1
  isplitl [Hp3 Hc3]
  · iapply (w_start P c 3 b); isplitl [Hp3]; · iexact Hp3
    iexact Hc3
  iexact Ho

/-- What is left alone until the reduce-scatter copies are under way. -/
def blkZ : sProp 𝕄 := iprop(blkC (F := F) c 0 ∗ blkC (F := F) c 1 ∗ blkW P c a5 0 ∗ blkW P c a5 1 ∗ semVal (barCell c) 0)

/-- Before the heads: the context with any contents. -/
theorem ctx_start (X : Fin 8 → Vec F S512x64 .bf16) : a7Any (F := F) c ⊢ ctxS c X 0 :=
  (ctx_cols c).1.trans (fam_start _ _)

/-- The barrier passed, set out for the first half's heads. -/
theorem tr_bar {O : CellTallies nD τ sig Unit} (X : Fin 8 → Vec F S512x64 .bf16) :
    iprop(recs P K c ∗ ow (F := F) c O ∗ (semVal (barCell c) 0 ∗ bigSep (Finset.univ.erase c) fun d => give c d)
      ∗ (give c c ∗ wins c a0 a1 a2 a3 a4 x0 x1 x2 x3 x4 ∗ a7Any (F := F) c ∗ blkT P c a5 0 ∗ blkT P c a5 1))
    ⊢ iprop(ctxS c X 0 ∗ (wins c a0 a1 a2 a3 a4 x0 x1 x2 x3 x4 ∗ (recs P K c ∗ ow (F := F) c O ∗ blkB (F := F) c 0 ∗ (blkB (F := F) c 1 ∗ blkZ P c a5)))) := by
  iintro ⟨Hr, HO, ⟨Hv, Hg⟩, Hgc, Hw, H7, HT0, HT1⟩
  ihave Hg := (gifts (F := F) c) $$ [Hg Hgc]
  · isplitl [Hg]; · iexact Hg
    iexact Hgc
  icases Hg with ⟨⟨R0, R1⟩, G0, G1⟩
  ihave HT0 := (sort_half P c a5 0) $$ [HT0 R0 G0]
  · isplitl [HT0]; · iexact HT0
    isplitl [R0]; · iexact R0
    iexact G0
  ihave HT1 := (sort_half P c a5 1) $$ [HT1 R1 G1]
  · isplitl [HT1]; · iexact HT1
    isplitl [R1]; · iexact R1
    iexact G1
  icases HT0 with ⟨B0, C0, W0⟩
  icases HT1 with ⟨B1, C1, W1⟩
  isplitl [H7]; · iapply (ctx_start c X); iexact H7
  isplitl [Hw]; · iexact Hw
  isplitl [Hr]; · iexact Hr
  isplitl [HO]; · iexact HO
  isplitl [B0]; · iexact B0
  isplitl [B1]; · iexact B1
  unfold blkZ
  isplitl [C0]; · iexact C0
  isplitl [C1]; · iexact C1
  isplitl [W0]; · iexact W0
  isplitl [W1]; · iexact W1
  iexact Hv

/-! ## The heads done: the partial product stored, and its chunks sent -/

/-- Eight columns held at `X` are the context buffer held at the context. -/
theorem ctx_whole (X : Fin 8 → Vec F S512x64 .bf16) : ctxS c X 8 ⊢ owns (c : Thread nD τ) A7 fullShare (ctxOf X) :=
  (fam_done _ _ rfl).trans (owns_glue (c : Thread nD τ) A7 colRect (fun _ _ => rfl) col_disj col_cov fullShare X)
/-- After the heads: the whole context. -/
theorem tr_ctx {R : sProp 𝕄} (X : Fin 8 → Vec F S512x64 .bf16) : iprop(ctxS c X 8 ∗ R) ⊢ iprop(owns (c : Thread nD τ) A7 fullShare (ctxOf X) ∗ R) := by
  iintro ⟨H, HR⟩; isplitl [H]; · iapply (ctx_whole c X); iexact H
  iexact HR

/-- The half of the partial product is the next thing stored. -/
theorem lend_half {A B C D E : sProp 𝕄} (b : Fin 2) (w : Vec F S512x768 .bf16) :
    iprop(A ∗ (B ∗ (C ∗ D ∗ blkB (F := F) c b ∗ E)))
      ⊢ iprop((∃ X, owns (c : Thread nD τ) (A6.slice (halfRect b) (fun _ => rfl)) fullShare X)
        ∗ (owns (c : Thread nD τ) (A6.slice (halfRect b) (fun _ => rfl)) fullShare w
          -∗ (iprop(A ∗ (B ∗ (C ∗ D ∗ (owns (c : Thread nD τ) (A6.slice (halfRect b) (fun _ => rfl)) fullShare w ∗ rsT (F := F) c b ∗ gR (F := F) c b) ∗ E))) : sProp 𝕄))) := by
  unfold blkB halfAny
  iintro ⟨HA, HB, HC, HD, ⟨Hh, Ht, Hg⟩, HE⟩
  isplitl [Hh]; · iexact Hh
  iintro Hh
  isplitl [HA]; · iexact HA
  isplitl [HB]; · iexact HB
  isplitl [HC]; · iexact HC
  isplitl [HD]; · iexact HD
  isplitl [Hh Ht Hg]
  · isplitl [Hh]; · iexact Hh
    isplitl [Ht]; · iexact Ht
    iexact Hg
  iexact HE

/-- The half stored, set out for its eight copies. -/
theorem tr_half {A C D E : sProp 𝕄} (b : Fin 2) (w : Vec F S512x768 .bf16) (hw : w = P c b) (Y : Vec F S512x512 .bf16) :
    iprop(owns (c : Thread nD τ) A7 fullShare Y ∗ (A ∗ (C ∗ D ∗ (owns (c : Thread nD τ) (A6.slice (halfRect b) (fun _ => rfl)) fullShare w ∗ rsT (F := F) c b ∗ gR (F := F) c b) ∗ E)))
      ⊢ iprop(C ∗ D ∗ rsS P c b 0 ∗ (a7Any (F := F) c ∗ A ∗ E)) := by
  subst hw
  have hz := zip2 (F := F) (Finset.univ : Finset (Fin 8))
  iintro ⟨H7, HA, HC, HD, ⟨Hh, Ht, Hg⟩, HE⟩
  isplitl [HC]; · iexact HC
  isplitl [HD]; · iexact HD
  isplitl [Hh Ht Hg]
  · iapply (show _ ⊢ rsS P c b 0 from fam_start _ _)
    iapply (hz (fun k : Fin 8 => iprop((∃ Y, owns ((k : Dev nD) : Thread nD τ) (rsSlot b c) fullShare Y) ∗ reached (ER (F := F)) (dcell k 1 b c) 0))
      (fun k : Fin 8 => iprop(dutyTok (ER (F := F)) (dcell k 1 b c) 0 0 ∗ dutyTok (ER (F := F)) (dcell c 0 b k) 0 0
        ∗ owns (c : Thread nD τ) (pstChunk b k) fullShare (chunk k (P c b)))))
    isplitl [Hg]; · unfold gR; iexact Hg
    ihave Hc := (half_chunks c b (P c b)) $$ Hh
    unfold rsT
    ihave Ht := (unzip2 (F := F) (Finset.univ : Finset (Fin 8)) _ _) $$ Ht
    icases Ht with ⟨Ht1, Ht0⟩
    iapply (hz (fun k : Fin 8 => dutyTok (ER (F := F)) (dcell k 1 b c) 0 0)
      (fun k : Fin 8 => iprop(dutyTok (ER (F := F)) (dcell c 0 b k) 0 0 ∗ owns (c : Thread nD τ) (pstChunk b k) fullShare (chunk k (P c b)))))
    isplitl [Ht1]; · iexact Ht1
    iapply (hz (fun k : Fin 8 => dutyTok (ER (F := F)) (dcell c 0 b k) 0 0)
      (fun k : Fin 8 => owns (c : Thread nD τ) (pstChunk b k) fullShare (chunk k (P c b))))
    isplitl [Ht0]; · iexact Ht0
    iexact Hc
  · isplitl [H7]; · unfold a7Any; iexists Y; iexact H7
    isplitl [HA]; · iexact HA
    iexact HE

/-- The first half's copies sent, set out for the second half's heads. -/
theorem tr_rs0 {O : CellTallies nD τ sig Unit} {A E Z : sProp 𝕄} (X : Fin 8 → Vec F S512x64 .bf16) :
    iprop(recs P K c ∗ ow (F := F) c (ors c 0 8 + O) ∗ rsS P c 0 8 ∗ (a7Any (F := F) c ∗ A ∗ (E ∗ Z)))
      ⊢ iprop(ctxS c X 0 ∗ (A ∗ (recs P K c ∗ ow (F := F) c O ∗ E ∗ (rsS P c 0 8 ∗ Z)))) := by
  rw [ors_top, zero_add]
  iintro ⟨Hr, HO, HS, H7, HA, HE, HZ⟩
  isplitl [H7]; · iapply (ctx_start c X); iexact H7
  isplitl [HA]; · iexact HA
  isplitl [Hr]; · iexact Hr
  isplitl [HO]; · iexact HO
  isplitl [HE]; · iexact HE
  isplitl [HS]; · iexact HS
  iexact HZ

/-! ## Receiving, reducing, and sending the reduced block -/

/-- What is left alone while half `b`'s chunks come in, beside the operands. -/
def blkY : sProp 𝕄 :=
  iprop(posn (F := F) c 0 0 ∗ posn (F := F) c 0 1 ∗ posn (F := F) c 2 0 ∗ posn (F := F) c 2 1 ∗ rsS P c 0 8 ∗ rsS P c 1 8
    ∗ wS P c 3 0 0 ∗ wS P c 3 1 0 ∗ outS P c a5 0 0 ∗ outS P c a5 1 0 ∗ semVal (barCell c) 0 ∗ a7Any (F := F) c)

/-- From the second batch's reduce-scatter to the waits for the first. -/
theorem tr_rs1 {O : CellTallies nD τ sig Unit} {A : sProp 𝕄} :
    iprop(recs P K c ∗ ow (F := F) c (ors c 1 8 + O) ∗ rsS P c 1 8 ∗ (a7Any (F := F) c ∗ A ∗ (rsS P c 0 8 ∗ blkZ P c a5)))
      ⊢ iprop(recs P K c ∗ ow (F := F) c O ∗ wS P c 1 0 0 ∗ (blkC (F := F) c 0 ∗ (wS P c 1 1 0 ∗ blkC (F := F) c 1) ∗ (A ∗ blkY P c a5))) := by
  rw [ors_top, zero_add]; unfold blkZ blkW blkY
  iintro ⟨Hr, HO, HS1, H7, HA, HS0, C0, C1, ⟨Hp00, Hp20, Hw10, Hw30, Ho0⟩, ⟨Hp01, Hp21, Hw11, Hw31, Ho1⟩, Hv⟩
  isplitl [Hr]; · iexact Hr
  isplitl [HO]; · iexact HO
  isplitl [Hw10]; · iexact Hw10
  isplitl [C0]; · iexact C0
  isplitl [Hw11 C1]
  · isplitl [Hw11]; · iexact Hw11
    iexact C1
  isplitl [HA]; · iexact HA
  isplitl [Hp00]; · iexact Hp00
  isplitl [Hp01]; · iexact Hp01
  isplitl [Hp20]; · iexact Hp20
  isplitl [Hp21]; · iexact Hp21
  isplitl [HS0]; · iexact HS0
  isplitl [HS1]; · iexact HS1
  isplitl [Hw30]; · iexact Hw30
  isplitl [Hw31]; · iexact Hw31
  isplitl [Ho0]; · iexact Ho0
  isplitl [Ho1]; · iexact Ho1
  isplitl [Hv]; · iexact Hv
  iexact H7

/-- The reduced plane's dummy load. -/
theorem lend_plane {A B C E : sProp 𝕄} (b : Fin 2) : iprop(A ∗ B ∗ C ∗ (blkC (F := F) c b ∗ E))
    ⊢ iprop((∃ X, owns (c : Thread nD τ) (A10.slice (planeRect b) (fun _ => rfl)) fullShare X)
      ∗ ((∃ X, owns (c : Thread nD τ) (A10.slice (planeRect b) (fun _ => rfl)) fullShare X) -∗ (iprop(A ∗ B ∗ C ∗ (blkC (F := F) c b ∗ E)) : sProp 𝕄))) :=
  lend_snd (lend_snd (lend_snd (lend_fst (lend_fst lend_self))))

/-- The reduced plane is the next thing stored: then all is set out for its eight copies. -/
theorem store_plane {A B C E : sProp 𝕄} (b : Fin 2) (w : Vec F S1x64x768 .bf16) (hw : w = shapeCast S1x64x768 (red P c b) casts_plane_up) :
    iprop(A ∗ B ∗ C ∗ (blkC (F := F) c b ∗ E))
      ⊢ iprop((∃ X, owns (c : Thread nD τ) (A10.slice (planeRect b) (fun _ => rfl)) fullShare X)
        ∗ (owns (c : Thread nD τ) (A10.slice (planeRect b) (fun _ => rfl)) fullShare w -∗ (iprop(A ∗ B ∗ agS P c b 0 ∗ (E ∗ (C ∗ remn P c b))) : sProp 𝕄))) := by
  subst hw
  unfold blkC planeAny remn
  have hz := zip2 (F := F) (Finset.univ : Finset (Fin 8))
  iintro ⟨HA, HB, HC, ⟨Hp, Ht, Hg⟩, HE⟩
  isplitl [Hp]; · iexact Hp
  iintro Hp
  ihave Hp := (Entails.of_eq (owns_plane c b fullShare (red P c b)).symm) $$ Hp
  ihave Hp := (plane_shares c b (red P c b)).1 $$ Hp
  icases Hp with ⟨Hrem, Hsh⟩
  isplitl [HA]; · iexact HA
  isplitl [HB]; · iexact HB
  isplitl [Hsh Ht Hg]
  · iapply (show _ ⊢ agS P c b 0 from fam_start _ _)
    iapply (hz (fun d : Fin 8 => iprop((∃ Y, owns ((pe c d) : Thread nD τ) (agSlot b c) fullShare Y) ∗ reached (ER (F := F)) (dcell (pe c d) 3 b c) 0))
      (fun d : Fin 8 => iprop(dutyTok (ER (F := F)) (dcell (pe c d) 3 b c) 0 0 ∗ dutyTok (ER (F := F)) (dcell c 2 b d) 0 0
        ∗ owns (c : Thread nD τ) (redPlane b) (rshare d) (red P c b))))
    isplitl [Hg]; · unfold gA; iexact Hg
    unfold agT
    ihave Ht := (unzip2 (F := F) (Finset.univ : Finset (Fin 8)) _ _) $$ Ht
    icases Ht with ⟨Ht1, Ht0⟩
    iapply (hz (fun d : Fin 8 => dutyTok (ER (F := F)) (dcell (pe c d) 3 b c) 0 0)
      (fun d : Fin 8 => iprop(dutyTok (ER (F := F)) (dcell c 2 b d) 0 0 ∗ owns (c : Thread nD τ) (redPlane b) (rshare d) (red P c b))))
    isplitl [Ht1]; · iexact Ht1
    iapply (hz (fun d : Fin 8 => dutyTok (ER (F := F)) (dcell c 2 b d) 0 0)
      (fun d : Fin 8 => owns (c : Thread nD τ) (redPlane b) (rshare d) (red P c b)))
    isplitl [Ht0]; · iexact Ht0
    iexact Hsh
  · isplitl [HE]; · iexact HE
    isplitl [HC]; · iexact HC
    iexact Hrem

/-- The first half's all-gather copies sent, set out for the second half's receives. -/
theorem tr_ag0 {O : CellTallies nD τ sig Unit} {E T : sProp 𝕄} :
    iprop(recs P K c ∗ ow (F := F) c (oag c 0 8 + O) ∗ agS P c 0 8 ∗ (((wS P c 1 1 0 ∗ blkC (F := F) c 1) ∗ E) ∗ T))
      ⊢ iprop(recs P K c ∗ ow (F := F) c O ∗ wS P c 1 1 0 ∗ (blkC (F := F) c 1 ∗ (E ∗ (agS P c 0 8 ∗ T)))) := by
  rw [oag_top, zero_add]
  iintro ⟨Hr, HO, HS, ⟨⟨Hw, HC⟩, HE⟩, HT⟩
  isplitl [Hr]; · iexact Hr
  isplitl [HO]; · iexact HO
  isplitl [Hw]; · iexact Hw
  isplitl [HC]; · iexact HC
  isplitl [HE]; · iexact HE
  isplitl [HS]; · iexact HS
  iexact HT

/-! ## The last waits -/

/-- A family of copies sent, with the places of their send cells, is a family of waits. -/
theorem w_rs (b : Fin 2) : iprop(posn (F := F) c 0 b ∗ rsS P c b 8) ⊢ wS P c 0 b 0 := by
  refine BIBase.Entails.trans ?_ (w_start P c 0 b)
  iintro ⟨Hp, HS⟩
  isplitl [Hp]; · iexact Hp
  iapply (show rsS P c b 8 ⊢ crd (F := F) c 0 b from fam_done _ _ rfl); iexact HS
/-- Before the waits for the all-gather's sends: positions and credits. -/
theorem w_ag (b : Fin 2) : iprop(posn (F := F) c 2 b ∗ agS P c b 8) ⊢ wS P c 2 b 0 := by
  refine BIBase.Entails.trans ?_ (w_start P c 2 b)
  iintro ⟨Hp, HS⟩
  isplitl [Hp]; · iexact Hp
  iapply (show agS P c b 8 ⊢ crd (F := F) c 2 b from fam_done _ _ rfl); iexact HS

/-- What no wait gives back. -/
def kept (A : sProp 𝕄) : sProp 𝕄 :=
  iprop(A ∗ a7Any (F := F) c ∗ semVal (barCell c) 0 ∗ wS P c 1 0 8 ∗ wS P c 1 1 8 ∗ remn P c 0 ∗ remn P c 1)

/-- All sent: the reduce-scatter send waits are next. -/
theorem tr_ag1 {A : sProp 𝕄} :
    iprop(recs P K c ∗ ow (F := F) c (oag c 1 8 + 0) ∗ agS P c 1 8 ∗ (((A ∗ blkY P c a5) ∗ (agS P c 0 8 ∗ (wS P c 1 0 8 ∗ remn P c 0))) ∗ (wS P c 1 1 8 ∗ remn P c 1)))
      ⊢ iprop(recs P K c ∗ ow (F := F) c 0 ∗ wS P c 0 0 0 ∗ ((wS P c 0 1 0 ∗ ((wS P c 3 0 0 ∗ outS P c a5 0 0) ∗ ((wS P c 3 1 0 ∗ outS P c a5 1 0)
        ∗ (wS P c 2 0 0 ∗ wS P c 2 1 0)))) ∗ kept P c A)) := by
  rw [oag_top, zero_add]; unfold blkY kept
  iintro ⟨Hr, HO, Ha1, ⟨⟨HA, Hp00, Hp01, Hp20, Hp21, HS0, HS1, Hw30, Hw31, Ho0, Ho1, Hv, H7⟩, Ha0, Hw10, Hrem0⟩, Hw11, Hrem1⟩
  isplitl [Hr]; · iexact Hr
  isplitl [HO]; · iexact HO
  isplitl [Hp00 HS0]
  · iapply (w_rs P c 0); isplitl [Hp00]; · iexact Hp00
    iexact HS0
  isplitr [HA H7 Hv Hw10 Hw11 Hrem0 Hrem1]
  · isplitl [Hp01 HS1]
    · iapply (w_rs P c 1); isplitl [Hp01]; · iexact Hp01
      iexact HS1
    isplitl [Hw30 Ho0]
    · isplitl [Hw30]; · iexact Hw30
      iexact Ho0
    isplitl [Hw31 Ho1]
    · isplitl [Hw31]; · iexact Hw31
      iexact Ho1
    isplitl [Hp20 Ha0]
    · iapply (w_ag P c 0); isplitl [Hp20]; · iexact Hp20
      iexact Ha0
    · iapply (w_ag P c 1); isplitl [Hp21]; · iexact Hp21
      iexact Ha1
  isplitl [HA]; · iexact HA
  isplitl [H7]; · iexact H7
  isplitl [Hv]; · iexact Hv
  isplitl [Hw10]; · iexact Hw10
  isplitl [Hw11]; · iexact Hw11
  isplitl [Hrem0]; · iexact Hrem0
  iexact Hrem1

/-- Nothing else owed. -/
theorem tr_ow {O : CellTallies nD τ sig Unit} {R : sProp 𝕄} : iprop(recs P K c ∗ ow (F := F) c O ∗ R) ⊢ iprop(recs P K c ∗ ow (F := F) c (O + 0) ∗ R) := by
  rw [add_zero]

/-- Moving on to the next of what is left. -/
theorem tr_one {A B C D E T : sProp 𝕄} : iprop(A ∗ B ∗ C ∗ ((D ∗ E) ∗ T)) ⊢ iprop(A ∗ B ∗ D ∗ (E ∗ (C ∗ T))) := by
  iintro ⟨HA, HB, HC, ⟨HD, HE⟩, HT⟩
  isplitl [HA]; · iexact HA
  isplitl [HB]; · iexact HB
  isplitl [HD]; · iexact HD
  isplitl [HE]; · iexact HE
  isplitl [HC]; · iexact HC
  iexact HT
/-- A regrouping of resources: a pair parted, the third kept for later. -/
theorem tr_pair {A B C D D' E T : sProp 𝕄} : iprop(A ∗ B ∗ C ∗ (((D ∗ D') ∗ E) ∗ T)) ⊢ iprop(A ∗ B ∗ D ∗ D' ∗ (E ∗ (C ∗ T))) := by
  iintro ⟨HA, HB, HC, ⟨⟨HD, HD'⟩, HE⟩, HT⟩
  isplitl [HA]; · iexact HA
  isplitl [HB]; · iexact HB
  isplitl [HD]; · iexact HD
  isplitl [HD']; · iexact HD'
  isplitl [HE]; · iexact HE
  isplitl [HC]; · iexact HC
  iexact HT
/-- A regrouping of resources: a pair joined. -/
theorem tr_fold {A B C C' R : sProp 𝕄} : iprop(A ∗ B ∗ C ∗ C' ∗ R) ⊢ iprop(A ∗ B ∗ (C ∗ C') ∗ R) := by
  iintro ⟨HA, HB, HC, HC', HR⟩
  isplitl [HA]; · iexact HA
  isplitl [HB]; · iexact HB
  isplitl [HC HC']
  · isplitl [HC]; · iexact HC
    iexact HC'
  iexact HR
/-- A regrouping of resources: the third kept for later. -/
theorem tr_last {A B C D T : sProp 𝕄} : iprop(A ∗ B ∗ C ∗ (D ∗ T)) ⊢ iprop(A ∗ B ∗ D ∗ (C ∗ T)) := by
  iintro ⟨HA, HB, HC, HD, HT⟩
  isplitl [HA]; · iexact HA
  isplitl [HB]; · iexact HB
  isplitl [HD]; · iexact HD
  isplitl [HC]; · iexact HC
  iexact HT

/-! ## The end -/

/-- A family waited for: its cells at zero, and what they paid. -/
theorem w_done (f : Fin 4) (b : Fin 2) : wS P c f b 8
    ⊢ (iprop((bigSep (Finset.univ : Finset (Fin 8)) fun k => semVal (cellAt c (f, b, k)) 0) ∗ bigSep (Finset.univ : Finset (Fin 8)) fun k => pay P c f.val b k) : sProp 𝕄) :=
  (fam_done _ _ rfl).trans (unzip2 (F := F) Finset.univ _ _)

/-- A family with given contents is one with any contents. -/
theorem any_each {ι : Type} (s : Finset ι) {X : ι → Type} (Φ : (i : ι) → X i → sProp 𝕄) (x : (i : ι) → X i) :
    (bigSep s fun i => Φ i (x i) : sProp 𝕄) ⊢ bigSep s fun i => iprop(∃ y, Φ i y) :=
  bigSep_mono fun i _ => (show Φ i (x i) ⊢ iprop(∃ y, Φ i y) from by iintro H; iexists (x i); iexact H)

/-- The partial products come back from the copies that read them. -/
theorem a6_back : iprop((bigSep (Finset.univ : Finset (Fin 8)) fun k => pay P c (0 : Fin 4).val 0 k) ∗ (bigSep (Finset.univ : Finset (Fin 8)) fun k => pay P c (0 : Fin 4).val 1 k))
    ⊢ iprop(∃ X, owns (c : Thread nD τ) A6 fullShare X) := by
  have h := (pst_chunks (F := F) c).2
  rw [two] at h
  refine BIBase.Entails.trans ?_ h
  iintro ⟨H0, H1⟩
  isplitl [H0]
  · iapply (any_each (F := F) Finset.univ (fun k X => owns (c : Thread nD τ) (pstChunk 0 k) fullShare X) fun k => chunk k (P c 0)); iexact H0
  · iapply (any_each (F := F) Finset.univ (fun k X => owns (c : Thread nD τ) (pstChunk 1 k) fullShare X) fun k => chunk k (P c 1)); iexact H1
/-- The reduce-scatter's slots, whole again. -/
theorem a8_back : iprop((bigSep (Finset.univ : Finset (Fin 8)) fun k => pay P c (1 : Fin 4).val 0 k) ∗ (bigSep (Finset.univ : Finset (Fin 8)) fun k => pay P c (1 : Fin 4).val 1 k))
    ⊢ iprop(∃ X, owns (c : Thread nD τ) A8 fullShare X) := by
  have h := (slots (F := F) c A8).2
  rw [two] at h
  refine BIBase.Entails.trans ?_ h
  iintro ⟨H0, H1⟩
  isplitl [H0]
  · iapply (any_each (F := F) Finset.univ (fun k X => owns (c : Thread nD τ) (rsSlot 0 k) fullShare X) fun k : Fin 8 => chunk c (P k 0)); iexact H0
  · iapply (any_each (F := F) Finset.univ (fun k X => owns (c : Thread nD τ) (rsSlot 1 k) fullShare X) fun k : Fin 8 => chunk c (P k 1)); iexact H1
/-- The all-gather's slots, whole again. -/
theorem a9_back : iprop((bigSep (Finset.univ : Finset (Fin 8)) fun k => pay P c (3 : Fin 4).val 0 k) ∗ (bigSep (Finset.univ : Finset (Fin 8)) fun k => pay P c (3 : Fin 4).val 1 k))
    ⊢ iprop(∃ X, owns (c : Thread nD τ) A9 fullShare X) := by
  have h := (slots (F := F) c A9).2
  rw [two] at h
  refine BIBase.Entails.trans ?_ h
  iintro ⟨H0, H1⟩
  isplitl [H0]
  · iapply (any_each (F := F) Finset.univ (fun k X => owns (c : Thread nD τ) (agSlot 0 k) fullShare X) fun k : Fin 8 => red P k 0); iexact H0
  · iapply (any_each (F := F) Finset.univ (fun k X => owns (c : Thread nD τ) (agSlot 1 k) fullShare X) fun k : Fin 8 => red P k 1); iexact H1
/-- A reduced chunk comes back from the copies that read it. -/
theorem plane_back (b : Fin 2) : iprop(remn P c b ∗ (bigSep (Finset.univ : Finset (Fin 8)) fun k => pay P c (2 : Fin 4).val b k)) ⊢ planeAny (F := F) c b := by
  unfold remn planeAny
  refine (plane_shares c b (red P c b)).2.trans ?_
  rw [owns_plane]
  iintro H; iexists _; iexact H
/-- The reduced chunks, whole again. -/
theorem a10_back : iprop(planeAny (F := F) c 0 ∗ planeAny (F := F) c 1) ⊢ iprop(∃ X, owns (c : Thread nD τ) A10 fullShare X) := by
  have h := (red_planes (F := F) c).2
  rw [two] at h
  exact h
/-- The result, whole: every chunk has its value. -/
theorem a5_back : iprop(outS P c a5 0 8 ∗ outS P c a5 1 8) ⊢ owns (c : Thread nD τ) a5 fullShare (outOf fun t => outVal (red P t.2 t.1)) := by
  have h := owns_glue (F := F) (c : Thread nD τ) a5 chunkRects (fun _ _ => rfl) chunk_disj chunk_cov fullShare fun t => outVal (red P t.2 t.1)
  rw [bigSep_univ_prod, two] at h
  refine BIBase.Entails.trans ?_ h
  iintro ⟨H0, H1⟩
  isplitl [H0]
  · iapply (show outS P c a5 0 8 ⊢ _ from fam_done _ _ rfl); iexact H0
  · iapply (show outS P c a5 1 8 ⊢ _ from fam_done _ _ rfl); iexact H1

/-- The cells of one family and of both halves. -/
theorem zeros_eq : (bigSep (Finset.univ : Finset CIx) fun x => semVal (cellAt c x) 0 : sProp 𝕄)
    = bigSep (Finset.univ : Finset (Fin 4)) fun f => iprop((bigSep (Finset.univ : Finset (Fin 8)) fun k => semVal (cellAt c (f, 0, k)) 0)
        ∗ (bigSep (Finset.univ : Finset (Fin 8)) fun k => semVal (cellAt c (f, 1, k)) 0)) := by
  rw [bigSep_univ_prod]
  exact bigSep_congr fun f _ => by rw [bigSep_univ_prod, two]
/-- A family over four. -/
theorem four (Φ : Fin 4 → sProp 𝕄) : (bigSep Finset.univ Φ : sProp 𝕄) = iprop(Φ 0 ∗ Φ 1 ∗ Φ 2 ∗ Φ 3) := by
  rw [show (Finset.univ : Finset (Fin 4)) = insert 0 (insert 1 (insert 2 {3})) by decide, bigSep_ins (by decide), bigSep_ins (by decide), bigSep_ins (by decide), bigSep_singleton]

/-- What device `c` ends with. -/
def fin : sProp 𝕄 :=
  iprop(ow (F := F) c 0 ∗ wins c a0 a1 a2 a3 a4 x0 x1 x2 x3 x4 ∗ owns (c : Thread nD τ) a5 fullShare (outOf fun t => outVal (red P t.2 t.1))
    ∗ scratch (F := F) c ∗ zeros (F := F) c)

/-- After the last wait: every buffer is whole and nothing is owed. -/
theorem tr_end :
    iprop(recs P K c ∗ ow (F := F) c 0 ∗ wS P c 2 1 8 ∗ (wS P c 2 0 8 ∗ ((wS P c 3 1 8 ∗ outS P c a5 1 8) ∗ ((wS P c 3 0 8 ∗ outS P c a5 0 8)
      ∗ (wS P c 0 1 8 ∗ (wS P c 0 0 8 ∗ kept P c (wins c a0 a1 a2 a3 a4 x0 x1 x2 x3 x4)))))))
    ⊢ fin P c a0 a1 a2 a3 a4 a5 x0 x1 x2 x3 x4 := by
  unfold fin kept scratch zeros
  rw [zeros_eq, four]
  iintro ⟨-, HO, W21, W20, ⟨W31, O1⟩, ⟨W30, O0⟩, W01, W00, Hw, H7, Hv, W10, W11, R0, R1⟩
  ihave W00 := (w_done P c 0 0) $$ W00
  ihave W01 := (w_done P c 0 1) $$ W01
  ihave W10 := (w_done P c 1 0) $$ W10
  ihave W11 := (w_done P c 1 1) $$ W11
  ihave W20 := (w_done P c 2 0) $$ W20
  ihave W21 := (w_done P c 2 1) $$ W21
  ihave W30 := (w_done P c 3 0) $$ W30
  ihave W31 := (w_done P c 3 1) $$ W31
  icases W00 with ⟨V00, P00⟩
  icases W01 with ⟨V01, P01⟩
  icases W10 with ⟨V10, P10⟩
  icases W11 with ⟨V11, P11⟩
  icases W20 with ⟨V20, P20⟩
  icases W21 with ⟨V21, P21⟩
  icases W30 with ⟨V30, P30⟩
  icases W31 with ⟨V31, P31⟩
  isplitl [HO]; · iexact HO
  isplitl [Hw]; · iexact Hw
  isplitl [O0 O1]
  · iapply (a5_back P c a5); isplitl [O0]; · iexact O0
    iexact O1
  isplitl [P00 P01 P10 P11 P20 P21 P30 P31 H7 R0 R1]
  · isplitl [P00 P01]
    · iapply (a6_back P c); isplitl [P00]; · iexact P00
      iexact P01
    isplitl [H7]; · iexact H7
    isplitl [P10 P11]
    · iapply (a8_back P c); isplitl [P10]; · iexact P10
      iexact P11
    isplitl [P30 P31]
    · iapply (a9_back P c); isplitl [P30]; · iexact P30
      iexact P31
    iapply (a10_back (F := F) c)
    isplitl [P20 R0]
    · iapply (plane_back P c 0); isplitl [R0]; · iexact R0
      iexact P20
    · iapply (plane_back P c 1); isplitl [R1]; · iexact R1
      iexact P21
  isplitl [Hv]; · iexact Hv
  isplitl [V00 V01]
  · isplitl [V00]; · iexact V00
    iexact V01
  isplitl [V10 V11]
  · isplitl [V10]; · iexact V10
    iexact V11
  isplitl [V20 V21]
  · isplitl [V20]; · iexact V20
    iexact V21
  · isplitl [V30]; · iexact V30
    iexact V31

end Cert.KernelIdeal.Talk
-- ==== Proof.Ghost.lean ====
/-
  The launch's ghost state: the cells, the tokens of the duties, the launch credit, and how they are dealt to the
  devices; the DMA cells are funded dormant and opened at the region's entry.
-/
module

public import proofs.«01_k».proof.Proof.States
public import proofs.«01_k».proof.Proof.Gen.KernelIdeal.Regions

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cells and tokens -/

/-- The kernel's own DMA semaphores. -/
def osem (x : CIx) : SemLoc sig := .dma (dsem x.1 x.2.1 x.2.2)

/-- The semaphores are named once each. -/
theorem osem_inj : Function.Injective osem := fun x y h => by
  have h' : dsem x.1 x.2.1 x.2.2 = dsem y.1 y.2.1 y.2.2 := by unfold osem at h; exact SemLoc.dma.inj h
  obtain ⟨h1, h2, h3⟩ := dsem_inj h'
  exact Prod.ext h1 (Prod.ext h2 h3)

/-- The barrier's cell of each device, as an embedding. -/
def barEmb : Dev nD ↪ GSem nD τ sig := ⟨fun c => barCell c, fun _ _ h => congrArg (fun g : GSem nD τ sig => g.1.1) h⟩
/-- The copies' cells of each device, as an embedding. -/
def scEmb : Dev nD × CIx ↪ GSem nD τ sig := ⟨fun x => cellAt x.1 x.2, fun x y h =>
  Prod.ext (congrArg (fun g : GSem nD τ sig => g.1.1) h) (osem_inj (congrArg Prod.snd h))⟩
/-- The barrier's cells of all devices. -/
abbrev barCells : Finset (GSem nD τ sig) := Finset.univ.map barEmb
/-- The copies' cells of all devices. -/
abbrev scCells : Finset (GSem nD τ sig) := Finset.univ.map scEmb

/-- Different offsets from a device reach different peers. -/
theorem pe_inj (c : Dev nD) : Function.Injective (pe c) := (peEquiv c).injective

/-- The barrier duties: device `c` pays one unit on every other device's cell. -/
def barTokEmb : Dev nD × Fin 7 ↪ GSem nD τ sig × ℕ × Duty := ⟨fun x => (barCell (pe x.1 x.2.succ), 0, x.1), fun x y h => by
  have h1 : x.1 = y.1 := congrArg (fun t : GSem nD τ sig × ℕ × Duty => t.2.2) h
  have h2 : pe x.1 x.2.succ = pe y.1 y.2.succ := congrArg (fun t : GSem nD τ sig × ℕ × Duty => t.1.1.1) h
  rw [← h1] at h2
  exact Prod.ext h1 (Fin.succ_injective _ (pe_inj x.1 h2))⟩
/-- The copies' duties: one for each DMA cell. -/
def dmaTokEmb : Dev nD × CIx ↪ GSem nD τ sig × ℕ × Duty := ⟨fun x => (cellAt x.1 x.2, 0, 0), fun x y h =>
  scEmb.injective (congrArg Prod.fst h)⟩
/-- The duties at the barrier: one for each device and each of its peers. -/
def barToks : Finset (GSem nD τ sig × ℕ × Duty) := Finset.univ.map barTokEmb
/-- The duties at the copies' cells: one at each. -/
def dmaToks : Finset (GSem nD τ sig × ℕ × Duty) := Finset.univ.map dmaTokEmb
/-- All the duties. -/
def talkToks : Finset (GSem nD τ sig × ℕ × Duty) := barToks ∪ dmaToks

/-- A regular semaphore is not a copy's. -/
theorem bar_ne_dma (s : Sem sig) (n : DmaSem sig) : (SemLoc.reg s : SemLoc sig) ≠ .dma n := fun h => by cases h

/-- The barrier's cells are none of the copies' cells. -/
theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact bar_ne_dma _ _ (congrArg Prod.snd h).symm
/-- The barrier's duties are none of the copies' duties. -/
theorem disjoint_toks : Disjoint barToks dmaToks := by
  rw [Finset.disjoint_left]
  rintro t h₁ h₂
  obtain ⟨x, -, rfl⟩ := Finset.mem_map.mp h₁
  obtain ⟨y, -, h⟩ := Finset.mem_map.mp h₂
  exact bar_ne_dma _ _ (congrArg (fun t : GSem nD τ sig × ℕ × Duty => t.1.2) h).symm

/-- The launch's ghost element: the pipeline's at its staging cells, and the protocol's. -/
def u₀ : UU :=
  (initOf (Pipeline.cells cfgs cellOf_inj) (Pipeline.launchToks cfgs cellOf_inj), launchOf barCells scCells talkToks)

/-- A resource kept whole on one device. -/
def onDev (c₀ : Dev nD) (X : sProp 𝕄) (c : Dev nD) : sProp 𝕄 := if c = c₀ then X else iprop(emp)
/-- A resource that one device holds, over all devices, is that resource. -/
theorem bigSep_onDev (c₀ : Dev nD) (X : sProp 𝕄) : bigSep Finset.univ (onDev (F := F) c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
/-- The launch's ghost state, in the first device's hands. -/
def G : Dev nD → sProp 𝕄 := onDev 0 (BI.own (ER (F := F) (launchOf barCells scCells talkToks)))

/-! ## The launch credit -/

/-- Two of the copies' cells are the same when device, family, batch and number are. -/
theorem cell_eq_iff (j c : Dev nD) (f f' : Fin 4) (b b' : Fin 2) (k k' : Fin 8) :
    dcell c f' b' k' = dcell j f b k ↔ c = j ∧ f' = f ∧ b' = b ∧ k' = k := by
  constructor
  · intro h
    exact ⟨congrArg (fun g : GSem nD τ sig => g.1.1) h, dsem_inj (SemLoc.dma.inj (congrArg Prod.snd h))⟩
  · rintro ⟨rfl, rfl, rfl, rfl⟩; rfl
/-- One cell's amount read at another of the copies' cells. -/
theorem tally_dd (j c : Dev nD) (f f' : Fin 4) (b b' : Fin 2) (k k' : Fin 8) :
    (tallyAt (dcell j f b k) () N : CellTallies nD τ sig Unit) (dcell c f' b' k') () = if c = j ∧ f' = f ∧ b' = b ∧ k' = k then N else 0 := by
  rw [tallyAt_apply]
  simp only [and_true, cell_eq_iff]
/-- A copy's amount read at the barrier is zero. -/
theorem tally_db (j c : Dev nD) (f : Fin 4) (b : Fin 2) (k : Fin 8) (n : ℕ) :
    (tallyAt (dcell j f b k) () n : CellTallies nD τ sig Unit) (barCell c) () = 0 := by
  rw [tallyAt_apply, if_neg (fun h => bar_ne_dma _ _ (congrArg Prod.snd h.1))]
/-- The barrier's amount read at a copy's cell is zero. -/
theorem tally_bd (j c : Dev nD) (f : Fin 4) (b : Fin 2) (k : Fin 8) (n : ℕ) :
    (tallyAt (barCell j) () n : CellTallies nD τ sig Unit) (dcell c f b k) () = 0 := by
  rw [tallyAt_apply, if_neg (fun h => bar_ne_dma _ _ (congrArg Prod.snd h.1).symm)]
/-- One barrier's amount read at another's. -/
theorem tally_bb (j c : Dev nD) (n : ℕ) :
    (tallyAt (barCell j) () n : CellTallies nD τ sig Unit) (barCell c) () = if c = j then n else 0 := by
  rw [tallyAt_apply]
  exact if_congr ⟨fun h => congrArg (fun g : GSem nD τ sig => g.1.1) h.1, fun h => ⟨by rw [h], rfl⟩⟩ rfl rfl

/-- A sum of tallies read at a cell. -/
theorem sum_at {ι : Type} (s : Finset ι) (T : ι → CellTallies nD τ sig Unit) (g : GSem nD τ sig) :
    (∑ i ∈ s, T i) g () = ∑ i ∈ s, T i g () := by
  classical
  induction s using Finset.induction_on with
  | empty => rfl
  | insert i s hi ih => rw [Finset.sum_insert hi, Finset.sum_insert hi, ← ih]; rfl

/-- What a device owes at first, read at a cell. -/
theorem O₀_at (d : Dev nD) (g : GSem nD τ sig) :
    O₀ d g () = obar d 0 g () + (ors d 0 0 g () + (ors d 1 0 g () + (oag d 0 0 g () + oag d 1 0 g ()))) := rfl

/-- Every device is the peer of seven others. -/
theorem bar_around : ∀ c : Dev nD, (∑ d : Dev nD, ∑ i : Fin 7, if c = pe d i.succ then 1 else 0) = 7 := by decide

/-- All devices together owe seven signals at each barrier. -/
theorem owed_bar (c : Dev nD) : (∑ d : Dev nD, O₀ d (barCell c) ()) = 7 := by
  refine Eq.trans (Finset.sum_congr rfl fun d _ => ?_) (bar_around c)
  rw [O₀_at]; unfold obar ors oag
  rw [sum_at, sum_at, sum_at, sum_at, sum_at]
  simp only [tally_db, tally_bb, from'_zero, Finset.sum_const_zero, Nat.add_zero]

/-- The barrier's debt owes nothing at a copy's cell. -/
theorem obar_dma (d c : Dev nD) (f : Fin 4) (b : Fin 2) (k : Fin 8) : obar d 0 (dcell c f b k) () = 0 := by
  unfold obar; rw [sum_at]; simp only [tally_bd, Finset.sum_const_zero]
/-- What the reduce-scatter owes at a copy's cell. -/
theorem ors_dma (d c : Dev nD) (f : Fin 4) (b b' : Fin 2) (k : Fin 8) :
    ors d b' 0 (dcell c f b k) () = if f = 1 ∧ b = b' ∧ k = d then N else 0 := by
  unfold ors; rw [sum_at, from'_zero]
  rw [Finset.sum_congr rfl fun j _ => tally_dd j c 1 f b' b d k]
  rw [Finset.sum_eq_single c (fun j _ hj => if_neg fun h => hj h.1.symm) (fun h => absurd (Finset.mem_univ _) h)]
  simp only [true_and]
/-- What the all-gather owes at a copy's cell. -/
theorem oag_dma (d c : Dev nD) (f : Fin 4) (b b' : Fin 2) (k : Fin 8) :
    oag d b' 0 (dcell c f b k) () = if f = 3 ∧ b = b' ∧ k = d then N else 0 := by
  unfold oag; rw [sum_at, from'_zero]
  rw [Finset.sum_congr rfl fun j _ => tally_dd (pe d j) c 3 f b' b d k]
  rw [Finset.sum_eq_single ((peEquiv d).symm c)
    (fun j _ hj => if_neg fun h => hj (by rw [h.1]; exact ((peEquiv d).symm_apply_apply j).symm))
    (fun h => absurd (Finset.mem_univ _) h)]
  have : c = pe d ((peEquiv d).symm c) := ((peEquiv d).apply_symm_apply c).symm
  simp only [← this, true_and]

/-- All devices together owe one chunk at each receive cell. -/
theorem owed_dma (c : Dev nD) (f : Fin 4) (hf : f = 1 ∨ f = 3) (b : Fin 2) (k : Fin 8) : (∑ d : Dev nD, O₀ d (dcell c f b k) ()) = N := by
  have e (d : Dev nD) : O₀ d (dcell c f b k) () = if k = d then N else 0 := by
    rw [O₀_at, obar_dma, ors_dma, ors_dma, oag_dma, oag_dma]
    by_cases hk : k = d
    · rcases hf with rfl | rfl <;> fin_cases b <;> simp [hk]
    · simp [hk]
  rw [Finset.sum_congr rfl fun d _ => e d]
  exact (Finset.sum_ite_eq Finset.univ k fun _ => N).trans (if_pos (Finset.mem_univ _))

/-- The launch's credit at a barrier: seven signals. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar]
/-- The launch's credit at a receive cell: one chunk. -/
theorem launch_dma (c : Dev nD) (f : Fin 4) (hf : f = 1 ∨ f = 3) (b : Fin 2) (k : Fin 8) :
    tallyOn (dcell c f b k) (launchCredit (Pipeline.owing O₀) 0 (dcell c f b k)) = (tallyAt (dcell c f b k) () N : CellTallies nD τ sig Unit) := by
  unfold tallyAt; refine congrArg _ (Finsupp.ext fun u => ?_); cases u
  rw [Pipeline.launchCredit_owing, Finsupp.single_eq_same, owed_dma c f hf]

/-- A device's credits: its barrier's and its receive cells'. -/
def credit (c : Dev nD) : sProp 𝕄 :=
  iprop(cred (tallyAt (barCell c) () 7) ∗ (crd (F := F) c 1 0 ∗ crd (F := F) c 1 1) ∗ (crd (F := F) c 3 0 ∗ crd (F := F) c 3 1))

/-- The launch credit, as the credit of the barrier cell and of the receive cells. -/
theorem creds (c : Dev nD) : (Pipeline.launchCred O₀ c : sProp 𝕄) ⊢ credit (F := F) c := by
  unfold Pipeline.launchCred credit
  rw [bigSep_univ_at _ (SemLoc.reg barrier0), launch_bar]
  refine sep_mono_right ?_
  have hsub : (Finset.univ.map ⟨osem, osem_inj⟩ : Finset (SemLoc sig)) ⊆ Finset.univ.erase (.reg barrier0) := fun s hs => by
    obtain ⟨x, -, rfl⟩ := Finset.mem_map.mp hs
    exact Finset.mem_erase.mpr ⟨(bar_ne_dma _ _).symm, Finset.mem_univ _⟩
  refine (bigSep_subset hsub).trans ?_
  rw [bigSep_map, bigSep_univ_prod, four, bigSep_univ_prod, bigSep_univ_prod, bigSep_univ_prod, bigSep_univ_prod, two, two, two, two]
  have h (f : Fin 4) (hf : f = 1 ∨ f = 3) (b : Fin 2) : (bigSep (Finset.univ : Finset (Fin 8)) fun k =>
      (cred (tallyOn ((c : Thread nD τ), osem (f, b, k)) (launchCredit (Pipeline.owing O₀) 0 ((c : Thread nD τ), osem (f, b, k)))) : sProp 𝕄)) ⊢ crd (F := F) c f b :=
    bigSep_mono fun k _ => Entails.of_eq (congrArg cred (launch_dma c f hf b k))
  show (iprop(_ ∗ _ ∗ _ ∗ _) : sProp 𝕄) ⊢ _
  iintro ⟨-, ⟨H10, H11⟩, -, ⟨H30, H31⟩⟩
  isplitl [H10 H11]
  · isplitl [H10]
    · iapply (h 1 (.inl rfl) 0); iexact H10
    · iapply (h 1 (.inl rfl) 1); iexact H11
  · isplitl [H30]
    · iapply (h 3 (.inr rfl) 0); iexact H30
    · iapply (h 3 (.inr rfl) 1); iexact H31

/-! ## The tokens, each with the device that pays -/

/-- What the launch deals to a device. -/
def dealt (c : Dev nD) : sProp 𝕄 :=
  iprop(sigT (F := F) c ∗ (rsT (F := F) c 0 ∗ rsT (F := F) c 1) ∗ (agT (F := F) c 0 ∗ agT (F := F) c 1))

/-- The duty's token at a copy's cell. -/
def dtok (f : Fin 4) (b : Fin 2) (c : Dev nD) (k : Fin 8) : sProp 𝕄 := dutyTok (ER (F := F)) (dcell c f b k) 0 0

/-- The reduce-scatter's tokens, dealt to the devices that pay them. -/
theorem toks_rs (b : Fin 2) :
    iprop((bigSep Finset.univ fun c : Dev nD => bigSep Finset.univ fun k : Fin 8 => dtok (F := F) 1 b c k)
      ∗ (bigSep Finset.univ fun c : Dev nD => bigSep Finset.univ fun k : Fin 8 => dtok (F := F) 0 b c k))
    ⊢ (bigSep Finset.univ fun c : Dev nD => rsT (F := F) c b : sProp 𝕄) := by
  rw [bigSep_univ_comm (fun (c : Dev nD) (k : Fin 8) => dtok (F := F) 1 b c k)]
  refine (zip2 (F := F) _ _ _).trans (bigSep_mono fun c _ => ?_)
  unfold rsT
  exact zip2 (F := F) _ _ _
/-- The all-gather's tokens, dealt to the devices that pay them. -/
theorem toks_ag (b : Fin 2) :
    iprop((bigSep Finset.univ fun c : Dev nD => bigSep Finset.univ fun k : Fin 8 => dtok (F := F) 3 b c k)
      ∗ (bigSep Finset.univ fun c : Dev nD => bigSep Finset.univ fun k : Fin 8 => dtok (F := F) 2 b c k))
    ⊢ (bigSep Finset.univ fun c : Dev nD => agT (F := F) c b : sProp 𝕄) := by
  rw [bigSep_univ_comm (fun (c : Dev nD) (k : Fin 8) => dtok (F := F) 3 b c k)]
  refine (zip2 (F := F) _ _ _).trans (bigSep_mono fun c _ => ?_)
  unfold agT
  have h := around (F := F) c (fun d => dtok (F := F) 3 b d c)
  rw [show (bigSep Finset.univ fun i : Dev nD => dtok (F := F) 3 b i c : sProp 𝕄) = _ from h]
  exact zip2 (F := F) _ _ _

/-- The barrier's tokens, dealt to the devices that pay them. -/
theorem bar_deal : (bigSep barToks (fun x => (dutyTok (ER (F := F)) x.1 x.2.1 x.2.2 : sProp 𝕄)))
    = bigSep Finset.univ fun c : Dev nD => sigT (F := F) c := by
  unfold barToks; rw [bigSep_map, bigSep_univ_prod]; rfl
/-- The copies' tokens, dealt to the devices that pay them. -/
theorem dma_deal : (bigSep dmaToks (fun x => (dutyTok (ER (F := F)) x.1 x.2.1 x.2.2 : sProp 𝕄)))
    = bigSep Finset.univ fun f : Fin 4 => bigSep Finset.univ fun b : Fin 2 =>
        bigSep Finset.univ fun c : Dev nD => bigSep Finset.univ fun k : Fin 8 => dtok (F := F) f b c k := by
  unfold dmaToks; rw [bigSep_map, bigSep_univ_prod, bigSep_univ_comm, bigSep_univ_prod]
  refine bigSep_congr fun f _ => ?_
  rw [bigSep_univ_prod]
  refine bigSep_congr fun b _ => ?_
  rw [bigSep_univ_comm]; rfl

/-- All the tokens, dealt to the devices that pay them. -/
theorem toks_deal : (bigSep talkToks (fun x => (dutyTok (ER (F := F)) x.1 x.2.1 x.2.2 : sProp 𝕄)))
    ⊢ bigSep Finset.univ fun c : Dev nD => dealt (F := F) c := by
  unfold talkToks
  rw [bigSep_union disjoint_toks, bar_deal, dma_deal, four, two, two, two, two]
  show (iprop(_ ∗ (_ ∗ _) ∗ (_ ∗ _) ∗ (_ ∗ _) ∗ _ ∗ _) : sProp 𝕄) ⊢ _
  iintro ⟨Hb, ⟨H00, H01⟩, ⟨H10, H11⟩, ⟨H20, H21⟩, H30, H31⟩
  unfold dealt
  iapply (zip2 (F := F) _ _ _); isplitl [Hb]; · iexact Hb
  iapply (zip2 (F := F) _ _ _)
  isplitl [H00 H01 H10 H11]
  · iapply (zip2 (F := F) _ _ _)
    isplitl [H00 H10]
    · iapply (toks_rs (F := F) 0); isplitl [H10]; · iexact H10
      iexact H00
    · iapply (toks_rs (F := F) 1); isplitl [H11]; · iexact H11
      iexact H01
  · iapply (zip2 (F := F) _ _ _)
    isplitl [H20 H30]
    · iapply (toks_ag (F := F) 0); isplitl [H30]; · iexact H30
      iexact H20
    · iapply (toks_ag (F := F) 1); isplitl [H31]; · iexact H31
      iexact H21

/-! ## What each device is dealt -/

section Deal

variable (P : Dev nD → Fin 2 → Vec F S512x768 .bf16) (c : Dev nD)

/-- What device `c` starts with, its own cells dormant. -/
def Tk : sProp 𝕄 :=
  iprop((∃ K : GSem nD τ sig → ℕ, invs P K) ∗ (bigSep (Finset.univ : Finset (Dev nD)) fun d => reached (ER (F := F)) (barCell d) 0)
    ∗ atPos (ER (F := F)) (barCell c) 0 ∅ 0 ∗ (bigSep (Finset.univ : Finset CIx) fun x => openTok (ER (F := F)) (cellAt c x))
    ∗ dealt (F := F) c ∗ credit (F := F) c)
/-- The same once the cells are open. -/
def Xk : sProp 𝕄 := iprop(∃ K : GSem nD τ sig → ℕ, recs P K c ∗ toks (F := F) c)
/-- The barrier's counter at zero. -/
def Yk : sProp 𝕄 := semVal (barCell c) 0

/-- Device `c`'s places at its DMA cells, family by family. -/
theorem places : (bigSep (Finset.univ : Finset CIx) fun x => (atPos (ER (F := F)) (cellAt c x) 0 ∅ 0 : sProp 𝕄))
    = iprop((posn (F := F) c 0 0 ∗ posn (F := F) c 0 1) ∗ (posn (F := F) c 1 0 ∗ posn (F := F) c 1 1)
      ∗ (posn (F := F) c 2 0 ∗ posn (F := F) c 2 1) ∗ (posn (F := F) c 3 0 ∗ posn (F := F) c 3 1)) := by
  rw [bigSep_univ_prod, four, bigSep_univ_prod, bigSep_univ_prod, bigSep_univ_prod, bigSep_univ_prod, two, two, two, two]; rfl

/-- A device opens its own cells among all the invariants. -/
theorem invs_own (K : GSem nD τ sig → ℕ) : iprop(invs P K ∗ bigSep (Finset.univ : Finset CIx) fun x => openTok (ER (F := F)) (cellAt c x))
    ⊢ (bigSep (Finset.univ : Finset CIx) fun x => iprop(cellInv (ER (F := F)) (Rd P) (K (cellAt c x)) (cellAt c x) ∗ openTok (ER (F := F)) (cellAt c x)) : sProp 𝕄) := by
  refine bigSep_with_persistent fun x _ => ?_
  unfold invs
  iintro ⟨⟨-, #HI⟩, Ho⟩
  isplitr
  · iapply (bigSep_at (Finset.mem_univ (c, x)) (fun x : Dev nD × CIx => cellInv (ER (F := F)) (Rd P) (K (cellAt x.1 x.2)) (cellAt x.1 x.2))); iexact HI
  · iexact Ho

/-- Opening the cells at the region's entry. -/
theorem hopen : iprop(Tk P c ∗ Pipeline.ownSems0 osem c ∗ levAts L lv) ⊢ (|={Set.univ}=> Xk P c : sProp 𝕄) := by
  unfold Tk Xk dealt credit
  iintro ⟨⟨⟨%K, #HI⟩, #Hr, Hat, Ho, ⟨Hs, ⟨R0, R1⟩, ⟨G0, G1⟩⟩, ⟨Hc, ⟨C10, C11⟩, C30, C31⟩⟩, Hv, #Hlev⟩
  ihave Ho := (invs_own P c K) $$ [Ho]
  · isplitr; · iexact HI
    iexact Ho
  imod (cells_open (ER (F := F)) (Rd P) (Finset.univ : Finset CIx) (cellAt c) (fun x => K (cellAt c x)) (fun _ _ => Set.mem_univ _)) $$ [Ho Hv] with Hopen
  · isplitl [Ho]; · iexact Ho
    unfold Pipeline.ownSems0; iexact Hv
  ihave Hopen := (unzip2 (F := F) _ _ _) $$ Hopen
  icases Hopen with ⟨Hpos, #Hrd⟩
  ihave Hpos := (Entails.of_eq (places (F := F) c)) $$ Hpos
  icases Hpos with ⟨⟨P00, P01⟩, ⟨P10, P11⟩, ⟨P20, P21⟩, ⟨P30, P31⟩⟩
  imodintro
  iexists K
  isplitr
  · unfold recs
    isplitr; · iexact HI
    isplitr; · iexact Hlev
    isplitr; · iexact Hr
    iexact Hrd
  unfold toks barT tokB
  isplitl [Hs]; · iexact Hs
  isplitl [Hat Hc]
  · isplitl [Hat]; · iexact Hat
    iexact Hc
  isplitl [R0 G0 P00 P10 P20 P30 C10 C30]
  · isplitl [R0]; · iexact R0
    isplitl [G0]; · iexact G0
    isplitl [P00]; · iexact P00
    isplitl [P10]; · iexact P10
    isplitl [P20]; · iexact P20
    isplitl [P30]; · iexact P30
    isplitl [C10]; · iexact C10
    iexact C30
  · isplitl [R1]; · iexact R1
    isplitl [G1]; · iexact G1
    isplitl [P01]; · iexact P01
    isplitl [P11]; · iexact P11
    isplitl [P21]; · iexact P21
    isplitl [P31]; · iexact P31
    isplitl [C11]; · iexact C11
    iexact C31

end Deal

section Init

variable (m : (ℓ : Loc nD τ sig) → Buf (Elt F) ℓ) (ρ : Dev nD → PrngReg)
variable (P : Dev nD → Fin 2 → Vec F S512x768 .bf16)

/-- What rides beside the buffers up to the region. -/
def R (c : Dev nD) : sProp 𝕄 := iprop(Tk P c ∗ (∃ r, prngReg c r) ∗ ∃ W, owes (c : Thread nD τ) (O₀ c) W)
/-- What a device holds at the start: its buffers and its part of the protocol. -/
abbrev T₀ (c : Dev nD) : sProp 𝕄 := iprop(StableHlo.held (c : Thread nD τ) (Pipeline.ucRefs τ sig) (V0 m c) ∗ R P c)

/-- The only semaphore outside the region is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What of a device's launch holdings is not the protocol's ghost state. -/
def bundle (c : Dev nD) : sProp 𝕄 :=
  iprop(StableHlo.held (c : Thread nD τ) (Pipeline.ucRefs τ sig) (V0 m c) ∗ credit (F := F) c ∗ owes (c : Thread nD τ) (O₀ c) ∅ ∗ ∃ r, prngReg c r)
/-- What of the protocol's ghost state is one device's. -/
def linear (c : Dev nD) : sProp 𝕄 :=
  iprop(atPos (ER (F := F)) (barCell c) 0 ∅ 0 ∗ (bigSep (Finset.univ : Finset CIx) fun x => openTok (ER (F := F)) (cellAt c x)) ∗ dealt (F := F) c)
/-- What every device knows: the invariants, and that each barrier is in its first round. -/
def records (κ : GSem nD τ sig → ℕ) : sProp 𝕄 :=
  iprop(invs P κ ∗ bigSep (Finset.univ : Finset (Dev nD)) fun d => reached (ER (F := F)) (barCell d) 0)
instance records_persistent (κ : GSem nD τ sig → ℕ) : BI.Persistent (records P κ) := by unfold records; infer_instance

/-- A device's start out of the records, its tokens and its buffers. -/
theorem T₀_intro (κ : GSem nD τ sig → ℕ) (c : Dev nD) : iprop(records P κ ∗ (linear (F := F) c ∗ bundle m c)) ⊢ T₀ m P c := by
  unfold bundle T₀ R Tk records linear
  iintro ⟨⟨#HI, #HR⟩, ⟨Hat, Ho, Hd⟩, Hh, Hc, HO, Hp⟩
  isplitl [Hh]; · iexact Hh
  isplitl [Hat Ho Hd Hc]
  · isplitr; · iexists κ; iexact HI
    isplitr; · iexact HR
    isplitl [Hat]; · iexact Hat
    isplitl [Ho]; · iexact Ho
    isplitl [Hd]; · iexact Hd
    iexact Hc
  isplitl [Hp]; · iexact Hp
  iexists ∅; iexact HO

/-- The invariants over all cells are the records'. -/
theorem invs_eq (κ : GSem nD τ sig → ℕ) : (bigSep (barCells ∪ scCells) fun g => (cellInv (ER (F := F)) (Rd P) (κ g) g : sProp 𝕄)) = invs P κ := by
  rw [bigSep_union disjoint_cells, bigSep_map, bigSep_map]; rfl

/-- The launch: every cell's invariant allocated, the DMA cells' dormant, and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m P) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
    rw [show unscopedBufs c (fun b => m ((c : Thread nD τ).loc b)) = StableHlo.held (c : Thread nD τ) (Pipeline.ucRefs τ sig) (V0 m c) from
        Pipeline.unscopedBufs_held c (V0 m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos (ER (F := F)) g 0 ∅ 0 : sProp 𝕄)) ⊢ bigSep Finset.univ (fun c : Dev nD => (atPos (ER (F := F)) (barCell c) 0 ∅ 0 : sProp 𝕄)) :=
    Entails.of_eq (bigSep_map (s := Finset.univ) barEmb (Φ := fun g : GSem nD τ sig => (atPos (ER (F := F)) g 0 ∅ 0 : sProp 𝕄)))
  have hrd : bigSep barCells (fun g => (reached (ER (F := F)) g 0 : sProp 𝕄)) ⊢ bigSep Finset.univ (fun c : Dev nD => (reached (ER (F := F)) (barCell c) 0 : sProp 𝕄)) :=
    Entails.of_eq (bigSep_map (s := Finset.univ) barEmb (Φ := fun g : GSem nD τ sig => (reached (ER (F := F)) g 0 : sProp 𝕄)))
  have hop : bigSep scCells (fun g => (openTok (ER (F := F)) g : sProp 𝕄))
      ⊢ bigSep Finset.univ (fun c : Dev nD => bigSep (Finset.univ : Finset CIx) fun x => (openTok (ER (F := F)) (cellAt c x) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from bigSep_mono fun c _ => hcore c) $$ H
  ihave H2 := (unzip2 (F := F) _ _ _) $$ H'; icases H2 with ⟨HB, H3⟩
  ihave H4 := (unzip2 (F := F) _ _ _) $$ H3; icases H4 with ⟨Hv, HG⟩
  ihave Hu := (show bigSep Finset.univ (G (F := F)) ⊢ BI.own (ER (F := F) (launchOf barCells scCells talkToks)) from
    Entails.of_eq (bigSep_onDev (F := F) 0 (BI.own (ER (F := F) (launchOf barCells scCells talkToks))))) $$ HG
  imod (Rounds.fund_launch (ER (F := F)) (Rd P) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records P κ) (Φ := fun c => iprop(linear (F := F) c ∗ bundle m c)) fun c _ => T₀_intro m P κ c)
  isplitr
  · unfold records
    isplitr
    · iapply (Entails.of_eq (invs_eq P κ)); iexact Hinv
    · iapply hrd; iexact Hr
  iapply (zip2 (F := F) _ _ _)
  isplitr [HB]
  · unfold linear
    iapply (zip2 (F := F) _ _ _); isplitl [Hat]; · iapply hat $$ Hat
    iapply (zip2 (F := F) _ _ _); isplitl [Hopen]; · iapply hop $$ Hopen
    iapply (toks_deal (F := F)) $$ Htok
  · iexact HB

end Init

end Cert.KernelIdeal.Talk
-- ==== Proof.Body.lean ====
/-
  The kernel's body on one device: from all its tokens and buffers to the result and every cell back at zero.
-/
module

public import proofs.«01_k».proof.Proof.States
public import Idealize.ShloMosaic.Lib.VecWindow

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Fin 2 → Vec F S512x768 .bf16) (K : GSem nD τ sig → ℕ) (c : Dev nD)
variable (a0 : Memref sig .tc .vmem S1024x768 .bf16) (h0 : a0.IsWhole) (a1 : Memref sig .tc .vmem S768x512 .bf16) (h1 : a1.IsWhole)
  (a2 : Memref sig .tc .vmem S16x512x64 .bf16) (h2 : a2.IsWhole) (a3 : Memref sig .tc .vmem S16x512x64 .bf16) (h3 : a3.IsWhole)
  (a4 : Memref sig .tc .vmem S512x768 .bf16) (h4 : a4.IsWhole) (a5 : Memref sig .tc .vmem S1024x768 .f32) (h5 : a5.IsWhole)
  (x0 : Vec F S1024x768 .bf16) (x1 : Vec F S768x512 .bf16) (x2 x3 : Vec F S16x512x64 .bf16) (x4 : Vec F S512x768 .bf16)

/-- A load of a whole operand. -/
theorem whole_hY {s : Shape} {e : EltTy} (X : s.Idx → Elt F e) {off : Fin s.rank → ℕ} (inb : ∀ a, off a + s.size a ≤ s.size a) :
    (fun j => X ((Rect.unit (s := s) off s.size inb).emb j)) = X := funext fun j => congrArg X (Rect.emb_unit_full inb j)

set_option maxHeartbeats 4000000 in
/-- The body, from all of a device's tokens and buffers to what it ends with. -/
theorem body_spec (hP : ∀ b, partOf b x0 x1 x2 x3 x4 = P c b) {Q : PUnit → sProp 𝕄}
    (HQ : fin P c a0 a1 a2 a3 a4 a5 x0 x1 x2 x3 x4 ⊢ Q ⟨⟩) :
    iprop(recs P K c ∗ ow (F := F) c (O₀ c) ∗ toks (F := F) c ∗ wins c a0 a1 a2 a3 a4 x0 x1 x2 x3 x4
        ∗ (∃ X, owns (c : Thread nD τ) a5 fullShare X) ∗ scratch (F := F) c)
      ⊢ WP c (cc0__body a0 h0 a1 h1 a2 h2 a3 h3 a4 h4 a5 h5 A6 (Memref.isWhole_whole _) A7 (Memref.isWhole_whole _) A8 (Memref.isWhole_whole _)
          A9 (Memref.isWhole_whole _) A10 (Memref.isWhole_whole _) cc0_scratch5 cc0_scratch6 cc0_scratch7 cc0_scratch8) Q := by
  rw [cc0__body_eq_skeleton]; unfold cc0__body_skel
  refine (tr_start P K c a0 a1 a2 a3 a4 a5 x0 x1 x2 x3 x4).trans ?_
  refine bind_le c ?_
  rw [k0_part1_eq_skeleton]; unfold k0_part1_skel
  refine dev_le c ?_
  refine sig_step P K c (by decide) (Fin.ext (k0_dev1_eq c)) rfl ?_
  refine sig_step P K c (by decide) (Fin.ext (k0_dev2_eq c)) rfl ?_
  refine sig_step P K c (by decide) (Fin.ext (k0_dev3_eq c)) rfl ?_
  refine sig_step P K c (by decide) (Fin.ext (k0_dev4_eq c)) rfl ?_
  refine sig_step P K c (by decide) (Fin.ext (k0_dev5_eq c)) rfl ?_
  refine ret_le c ?_
  refine bind_le c ?_
  rw [k0_part2_eq_skeleton]; unfold k0_part2_skel
  refine sig_step P K c (by decide) (Fin.ext (k0_dev6_eq c)) rfl ?_
  refine sig_step P K c (by decide) (Fin.ext (k0_dev7_eq c)) rfl ?_
  refine (tr_sig P K c).trans ?_
  refine bar_step P K c (above_add (above_ors c 0 0) (above_add (above_ors c 1 0) ((above_O1 c).mono (by decide)))) rfl ?_
  refine (tr_bar P K c a0 a1 a2 a3 a4 a5 x0 x1 x2 x3 x4 fun h => headVal 0 h (k0_pay1 x0 x1) x2 x3).trans ?_
  refine load_step c (lend_snd (lend_fst (win0 c a0 a1 a2 a3 a4 x0 x1 x2 x3 x4))) x0 (whole_hY x0 _) ?_
  refine load_step c (lend_snd (lend_fst (win1 c a0 a1 a2 a3 a4 x0 x1 x2 x3 x4))) x1 (whole_hY x1 _) ?_
  refine load_step c (lend_snd (lend_fst (win2 c a0 a1 a2 a3 a4 x0 x1 x2 x3 x4))) (headOf 0 0 x2) rfl ?_
  refine ret_le c ?_
  refine bind_le c ?_
  rw [k0_part3_eq_skeleton]; unfold k0_part3_skel
  refine load_step c (lend_snd (lend_fst (win3 c a0 a1 a2 a3 a4 x0 x1 x2 x3 x4))) (headOf 0 0 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 0 1 x2) rfl ?_
  refine load_step c (lend_snd (lend_fst (win3 c a0 a1 a2 a3 a4 x0 x1 x2 x3 x4))) (headOf 0 1 x3) rfl ?_
  refine ctx_load c (by decide) rfl fun _ => ?_
  refine ctx_store c (by decide) rfl HEq.rfl ?_
  refine ret_le c ?_
  refine bind_le c ?_
  rw [k0_part4_eq_skeleton]; unfold k0_part4_skel
  refine load_step c (lend_snd (lend_fst (win2 c a0 a1 a2 a3 a4 x0 x1 x2 x3 x4))) (headOf 0 2 x2) rfl ?_
  refine load_step c (lend_snd (lend_fst (win3 c a0 a1 a2 a3 a4 x0 x1 x2 x3 x4))) (headOf 0 2 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 0 3 x2) rfl ?_
  refine load_step c (lend_snd (lend_fst (win3 c a0 a1 a2 a3 a4 x0 x1 x2 x3 x4))) (headOf 0 3 x3) rfl ?_
  refine ret_le c ?_
  refine bind_le c ?_
  rw [k0_part5_eq_skeleton]; unfold k0_part5_skel
  refine ctx_load c (by decide) rfl fun _ => ?_
  refine ctx_store c (by decide) rfl HEq.rfl ?_
  refine load_step c (lend_snd (lend_fst (win2 c a0 a1 a2 a3 a4 x0 x1 x2 x3 x4))) (headOf 0 4 x2) rfl ?_
  refine load_step c (lend_snd (lend_fst (win3 c a0 a1 a2 a3 a4 x0 x1 x2 x3 x4))) (headOf 0 4 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 0 5 x2) rfl ?_
  refine ret_le c ?_
  refine bind_le c ?_
  rw [k0_part6_eq_skeleton]; unfold k0_part6_skel
  refine load_step c (lend_snd (lend_fst (win3 c a0 a1 a2 a3 a4 x0 x1 x2 x3 x4))) (headOf 0 5 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 0 6 x2) rfl ?_
  refine load_step c (lend_snd (lend_fst (win3 c a0 a1 a2 a3 a4 x0 x1 x2 x3 x4))) (headOf 0 6 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 0 7 x2) rfl ?_
  refine ret_le c ?_
  refine bind_le c ?_
  rw [k0_part7_eq_skeleton]; unfold k0_part7_skel
  refine load_step c (lend_snd (lend_fst (win3 c a0 a1 a2 a3 a4 x0 x1 x2 x3 x4))) (headOf 0 7 x3) rfl ?_
  refine ctx_load c (by decide) rfl fun _ => ?_
  refine ctx_store c (by decide) rfl HEq.rfl ?_
  refine (tr_ctx c _).trans ?_
  refine load_step c (lend_fst lend_self) _ (whole_hY _ _) ?_
  refine load_step c (lend_snd (lend_fst (win4 c a0 a1 a2 a3 a4 x0 x1 x2 x3 x4))) x4 (whole_hY x4 _) ?_
  refine load_any c (halfRect 0) (hr := fun _ => rfl) (lend_snd (lend_snd (lend_snd (lend_snd (lend_fst (lend_fst lend_self)))))) fun _ => ?_
  refine store_piece c (halfRect 0) (hr := fun _ => rfl) (lend_half c 0 _) ?_
  refine (tr_half P c 0 _ (hP 0) _).trans ?_
  refine ret_le c ?_
  refine bind_le c ?_
  rw [k0_part8_eq_skeleton]; unfold k0_part8_skel
  refine rs_step P K c (j := 0) 0 (by decide) rfl rfl (slot_of _ (k0_off2_eq c) _) rfl (sem_rs_send 0 0 rfl _) (sem_rs_recv 0 c (k0_off1_eq c 0) _) ?_
  refine rs_step P K c (j := 1) 0 (by decide) rfl rfl (slot_of _ (k0_off2_eq c) _) rfl (sem_rs_send 0 1 rfl _) (sem_rs_recv 0 c (k0_off1_eq c 0) _) ?_
  refine rs_step P K c (j := 2) 0 (by decide) rfl rfl (slot_of _ (k0_off2_eq c) _) rfl (sem_rs_send 0 2 rfl _) (sem_rs_recv 0 c (k0_off1_eq c 0) _) ?_
  refine ret_le c ?_
  refine bind_le c ?_
  rw [k0_part9_eq_skeleton]; unfold k0_part9_skel
  refine rs_step P K c (j := 3) 0 (by decide) rfl rfl (slot_of _ (k0_off2_eq c) _) rfl (sem_rs_send 0 3 rfl _) (sem_rs_recv 0 c (k0_off1_eq c 0) _) ?_
  refine rs_step P K c (j := 4) 0 (by decide) rfl rfl (slot_of _ (k0_off2_eq c) _) rfl (sem_rs_send 0 4 rfl _) (sem_rs_recv 0 c (k0_off1_eq c 0) _) ?_
  refine rs_step P K c (j := 5) 0 (by decide) rfl rfl (slot_of _ (k0_off2_eq c) _) rfl (sem_rs_send 0 5 rfl _) (sem_rs_recv 0 c (k0_off1_eq c 0) _) ?_
  refine ret_le c ?_
  refine bind_le c ?_
  rw [k0_part10_eq_skeleton]; unfold k0_part10_skel
  refine rs_step P K c (j := 6) 0 (by decide) rfl rfl (slot_of _ (k0_off2_eq c) _) rfl (sem_rs_send 0 6 rfl _) (sem_rs_recv 0 c (k0_off1_eq c 0) _) ?_
  refine rs_step P K c (j := 7) 0 (by decide) rfl rfl (slot_of _ (k0_off2_eq c) _) rfl (sem_rs_send 0 7 rfl _) (sem_rs_recv 0 c (k0_off1_eq c 0) _) ?_
  refine (tr_rs0 P K c fun h => headVal 1 h (k0_pay1 x0 x1) x2 x3).trans ?_
  refine load_step c (lend_snd (lend_fst (win2 c a0 a1 a2 a3 a4 x0 x1 x2 x3 x4))) (headOf 1 0 x2) rfl ?_
  refine load_step c (lend_snd (lend_fst (win3 c a0 a1 a2 a3 a4 x0 x1 x2 x3 x4))) (headOf 1 0 x3) rfl ?_
  refine ret_le c ?_
  refine bind_le c ?_
  rw [k0_part11_eq_skeleton]; unfold k0_part11_skel
  refine ctx_load c (by decide) rfl fun _ => ?_
  refine ctx_store c (by decide) rfl HEq.rfl ?_
  refine load_step c (lend_snd (lend_fst (win2 c a0 a1 a2 a3 a4 x0 x1 x2 x3 x4))) (headOf 1 1 x2) rfl ?_
  refine load_step c (lend_snd (lend_fst (win3 c a0 a1 a2 a3 a4 x0 x1 x2 x3 x4))) (headOf 1 1 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 1 2 x2) rfl ?_
  refine ret_le c ?_
  refine bind_le c ?_
  rw [k0_part12_eq_skeleton]; unfold k0_part12_skel
  refine load_step c (lend_snd (lend_fst (win3 c a0 a1 a2 a3 a4 x0 x1 x2 x3 x4))) (headOf 1 2 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 1 3 x2) rfl ?_
  refine load_step c (lend_snd (lend_fst (win3 c a0 a1 a2 a3 a4 x0 x1 x2 x3 x4))) (headOf 1 3 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 1 4 x2) rfl ?_
  refine ret_le c ?_
  refine bind_le c ?_
  rw [k0_part13_eq_skeleton]; unfold k0_part13_skel
  refine load_step c (lend_snd (lend_fst (win3 c a0 a1 a2 a3 a4 x0 x1 x2 x3 x4))) (headOf 1 4 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 1 5 x2) rfl ?_
  refine load_step c (lend_snd (lend_fst (win3 c a0 a1 a2 a3 a4 x0 x1 x2 x3 x4))) (headOf 1 5 x3) rfl ?_
  refine ctx_load c (by decide) rfl fun _ => ?_
  refine ret_le c ?_
  refine bind_le c ?_
  rw [k0_part14_eq_skeleton]; unfold k0_part14_skel
  refine ctx_store c (by decide) rfl HEq.rfl ?_
  refine load_step c (lend_snd (lend_fst (win2 c a0 a1 a2 a3 a4 x0 x1 x2 x3 x4))) (headOf 1 6 x2) rfl ?_
  refine load_step c (lend_snd (lend_fst (win3 c a0 a1 a2 a3 a4 x0 x1 x2 x3 x4))) (headOf 1 6 x3) rfl ?_
  refine ctx_load c (by decide) rfl fun _ => ?_
  refine ctx_store c (by decide) rfl HEq.rfl ?_
  refine load_step c (lend_snd (lend_fst (win2 c a0 a1 a2 a3 a4 x0 x1 x2 x3 x4))) (headOf 1 7 x2) rfl ?_
  refine load_step c (lend_snd (lend_fst (win3 c a0 a1 a2 a3 a4 x0 x1 x2 x3 x4))) (headOf 1 7 x3) rfl ?_
  refine ret_le c ?_
  refine bind_le c ?_
  rw [k0_part15_eq_skeleton]; unfold k0_part15_skel
  refine ctx_load c (by decide) rfl fun _ => ?_
  refine ctx_store c (by decide) rfl HEq.rfl ?_
  refine (tr_ctx c _).trans ?_
  refine load_step c (lend_fst lend_self) _ (whole_hY _ _) ?_
  refine load_step c (lend_snd (lend_fst (win4 c a0 a1 a2 a3 a4 x0 x1 x2 x3 x4))) x4 (whole_hY x4 _) ?_
  refine load_any c (halfRect 1) (hr := fun _ => rfl) (lend_snd (lend_snd (lend_snd (lend_snd (lend_fst (lend_fst lend_self)))))) fun _ => ?_
  refine store_piece c (halfRect 1) (hr := fun _ => rfl) (lend_half c 1 _) ?_
  refine (tr_half P c 1 _ (hP 1) _).trans ?_
  refine rs_step P K c (j := 0) 1 (by decide) rfl rfl (slot_of _ (k0_off3_eq c) _) rfl (sem_rs_send 1 0 rfl _) (sem_rs_recv 1 c (k0_off1_eq c 1) _) ?_
  refine ret_le c ?_
  refine bind_le c ?_
  rw [k0_part16_eq_skeleton]; unfold k0_part16_skel
  refine rs_step P K c (j := 1) 1 (by decide) rfl rfl (slot_of _ (k0_off3_eq c) _) rfl (sem_rs_send 1 1 rfl _) (sem_rs_recv 1 c (k0_off1_eq c 1) _) ?_
  refine rs_step P K c (j := 2) 1 (by decide) rfl rfl (slot_of _ (k0_off3_eq c) _) rfl (sem_rs_send 1 2 rfl _) (sem_rs_recv 1 c (k0_off1_eq c 1) _) ?_
  refine rs_step P K c (j := 3) 1 (by decide) rfl rfl (slot_of _ (k0_off3_eq c) _) rfl (sem_rs_send 1 3 rfl _) (sem_rs_recv 1 c (k0_off1_eq c 1) _) ?_
  refine ret_le c ?_
  refine bind_le c ?_
  rw [k0_part17_eq_skeleton]; unfold k0_part17_skel
  refine rs_step P K c (j := 4) 1 (by decide) rfl rfl (slot_of _ (k0_off3_eq c) _) rfl (sem_rs_send 1 4 rfl _) (sem_rs_recv 1 c (k0_off1_eq c 1) _) ?_
  refine rs_step P K c (j := 5) 1 (by decide) rfl rfl (slot_of _ (k0_off3_eq c) _) rfl (sem_rs_send 1 5 rfl _) (sem_rs_recv 1 c (k0_off1_eq c 1) _) ?_
  refine rs_step P K c (j := 6) 1 (by decide) rfl rfl (slot_of _ (k0_off3_eq c) _) rfl (sem_rs_send 1 6 rfl _) (sem_rs_recv 1 c (k0_off1_eq c 1) _) ?_
  refine ret_le c ?_
  refine bind_le c ?_
  rw [k0_part18_eq_skeleton]; unfold k0_part18_skel
  refine rs_step P K c (j := 7) 1 (by decide) rfl rfl (slot_of _ (k0_off3_eq c) _) rfl (sem_rs_send 1 7 rfl _) (sem_rs_recv 1 c (k0_off1_eq c 1) _) ?_
  refine (tr_rs1 P K c a5).trans ?_
  refine wait_step P K c (j := 0) 2 1 0 (by decide) (by decide) (above_O1 c) (sem_rs_recv 0 0 rfl _) ?_
  refine rs_load P K c 0 (by decide) rfl HEq.rfl ?_
  refine ret_le c ?_
  refine bind_le c ?_
  rw [k0_part19_eq_skeleton]; unfold k0_part19_skel
  refine wait_step P K c (j := 1) 2 1 0 (by decide) (by decide) (above_O1 c) (sem_rs_recv 0 1 rfl _) ?_
  refine rs_load P K c 0 (by decide) rfl HEq.rfl ?_
  refine wait_step P K c (j := 2) 2 1 0 (by decide) (by decide) (above_O1 c) (sem_rs_recv 0 2 rfl _) ?_
  refine rs_load P K c 0 (by decide) rfl HEq.rfl ?_
  refine wait_step P K c (j := 3) 2 1 0 (by decide) (by decide) (above_O1 c) (sem_rs_recv 0 3 rfl _) ?_
  refine ret_le c ?_
  refine bind_le c ?_
  rw [k0_part20_eq_skeleton]; unfold k0_part20_skel
  refine rs_load P K c 0 (by decide) rfl HEq.rfl ?_
  refine wait_step P K c (j := 4) 2 1 0 (by decide) (by decide) (above_O1 c) (sem_rs_recv 0 4 rfl _) ?_
  refine rs_load P K c 0 (by decide) rfl HEq.rfl ?_
  refine wait_step P K c (j := 5) 2 1 0 (by decide) (by decide) (above_O1 c) (sem_rs_recv 0 5 rfl _) ?_
  refine rs_load P K c 0 (by decide) rfl HEq.rfl ?_
  refine ret_le c ?_
  refine bind_le c ?_
  rw [k0_part21_eq_skeleton]; unfold k0_part21_skel
  refine wait_step P K c (j := 6) 2 1 0 (by decide) (by decide) (above_O1 c) (sem_rs_recv 0 6 rfl _) ?_
  refine rs_load P K c 0 (by decide) rfl HEq.rfl ?_
  refine wait_step P K c (j := 7) 2 1 0 (by decide) (by decide) (above_O1 c) (sem_rs_recv 0 7 rfl _) ?_
  refine rs_load P K c 0 (by decide) rfl HEq.rfl ?_
  refine load_any c (planeRect 0) (hr := fun _ => rfl) (lend_plane c 0) fun _ => ?_
  refine ret_le c ?_
  refine bind_le c ?_
  rw [k0_part22_eq_skeleton]; unfold k0_part22_skel
  refine store_piece c (planeRect 0) (hr := fun _ => rfl) (store_plane P c 0 _ rfl) ?_
  refine ag_step P K c (j := 0) 0 (by decide) rfl (Fin.ext ((k0_dev24_eq c).trans (congrArg Fin.val (pe_zero c)).symm)) (slot_of _ (k0_off2_eq c) _) rfl (sem_ag_send 0 0 rfl _) (sem_ag_recv 0 c (k0_off1_eq c 0) _) ?_
  refine ag_step P K c (j := 1) 0 (by decide) rfl (Fin.ext (k0_dev25_eq c)) (slot_of _ (k0_off2_eq c) _) rfl (sem_ag_send 0 1 rfl _) (sem_ag_recv 0 c (k0_off1_eq c 0) _) ?_
  refine ret_le c ?_
  refine bind_le c ?_
  rw [k0_part23_eq_skeleton]; unfold k0_part23_skel
  refine ag_step P K c (j := 2) 0 (by decide) rfl (Fin.ext (k0_dev26_eq c)) (slot_of _ (k0_off2_eq c) _) rfl (sem_ag_send 0 2 rfl _) (sem_ag_recv 0 c (k0_off1_eq c 0) _) ?_
  refine ag_step P K c (j := 3) 0 (by decide) rfl (Fin.ext (k0_dev27_eq c)) (slot_of _ (k0_off2_eq c) _) rfl (sem_ag_send 0 3 rfl _) (sem_ag_recv 0 c (k0_off1_eq c 0) _) ?_
  refine ret_le c ?_
  refine bind_le c ?_
  rw [k0_part24_eq_skeleton]; unfold k0_part24_skel
  refine ag_step P K c (j := 4) 0 (by decide) rfl (Fin.ext (k0_dev28_eq c)) (slot_of _ (k0_off2_eq c) _) rfl (sem_ag_send 0 4 rfl _) (sem_ag_recv 0 c (k0_off1_eq c 0) _) ?_
  refine ag_step P K c (j := 5) 0 (by decide) rfl (Fin.ext (k0_dev29_eq c)) (slot_of _ (k0_off2_eq c) _) rfl (sem_ag_send 0 5 rfl _) (sem_ag_recv 0 c (k0_off1_eq c 0) _) ?_
  refine ret_le c ?_
  refine bind_le c ?_
  rw [k0_part25_eq_skeleton]; unfold k0_part25_skel
  refine ag_step P K c (j := 6) 0 (by decide) rfl (Fin.ext (k0_dev30_eq c)) (slot_of _ (k0_off2_eq c) _) rfl (sem_ag_send 0 6 rfl _) (sem_ag_recv 0 c (k0_off1_eq c 0) _) ?_
  refine ag_step P K c (j := 7) 0 (by decide) rfl (Fin.ext (k0_dev31_eq c)) (slot_of _ (k0_off2_eq c) _) rfl (sem_ag_send 0 7 rfl _) (sem_ag_recv 0 c (k0_off1_eq c 0) _) ?_
  refine (tr_ag0 P K c).trans ?_
  refine wait_step P K c (j := 0) 2 1 1 (by decide) (by decide) (above_oag c 1 0) (sem_rs_recv 1 0 rfl _) ?_
  refine rs_load P K c 1 (by decide) rfl HEq.rfl ?_
  refine ret_le c ?_
  refine bind_le c ?_
  rw [k0_part26_eq_skeleton]; unfold k0_part26_skel
  refine wait_step P K c (j := 1) 2 1 1 (by decide) (by decide) (above_oag c 1 0) (sem_rs_recv 1 1 rfl _) ?_
  refine rs_load P K c 1 (by decide) rfl HEq.rfl ?_
  refine wait_step P K c (j := 2) 2 1 1 (by decide) (by decide) (above_oag c 1 0) (sem_rs_recv 1 2 rfl _) ?_
  refine rs_load P K c 1 (by decide) rfl HEq.rfl ?_
  refine ret_le c ?_
  refine bind_le c ?_
  rw [k0_part27_eq_skeleton]; unfold k0_part27_skel
  refine wait_step P K c (j := 3) 2 1 1 (by decide) (by decide) (above_oag c 1 0) (sem_rs_recv 1 3 rfl _) ?_
  refine rs_load P K c 1 (by decide) rfl HEq.rfl ?_
  refine wait_step P K c (j := 4) 2 1 1 (by decide) (by decide) (above_oag c 1 0) (sem_rs_recv 1 4 rfl _) ?_
  refine rs_load P K c 1 (by decide) rfl HEq.rfl ?_
  refine ret_le c ?_
  refine bind_le c ?_
  rw [k0_part28_eq_skeleton]; unfold k0_part28_skel
  refine wait_step P K c (j := 5) 2 1 1 (by decide) (by decide) (above_oag c 1 0) (sem_rs_recv 1 5 rfl _) ?_
  refine rs_load P K c 1 (by decide) rfl HEq.rfl ?_
  refine wait_step P K c (j := 6) 2 1 1 (by decide) (by decide) (above_oag c 1 0) (sem_rs_recv 1 6 rfl _) ?_
  refine rs_load P K c 1 (by decide) rfl HEq.rfl ?_
  refine ret_le c ?_
  refine bind_le c ?_
  rw [k0_part29_eq_skeleton]; unfold k0_part29_skel
  refine wait_step P K c (j := 7) 2 1 1 (by decide) (by decide) (above_oag c 1 0) (sem_rs_recv 1 7 rfl _) ?_
  refine rs_load P K c 1 (by decide) rfl HEq.rfl ?_
  refine load_any c (planeRect 1) (hr := fun _ => rfl) (lend_plane c 1) fun _ => ?_
  refine store_piece c (planeRect 1) (hr := fun _ => rfl) (store_plane P c 1 _ rfl) ?_
  refine (tr_ow P K c).trans ?_
  refine ag_step P K c (j := 0) 1 (by decide) rfl (Fin.ext ((k0_dev32_eq c).trans (congrArg Fin.val (pe_zero c)).symm)) (slot_of _ (k0_off3_eq c) _) rfl (sem_ag_send 1 0 rfl _) (sem_ag_recv 1 c (k0_off1_eq c 1) _) ?_
  refine ret_le c ?_
  refine bind_le c ?_
  rw [k0_part30_eq_skeleton]; unfold k0_part30_skel
  refine ag_step P K c (j := 1) 1 (by decide) rfl (Fin.ext (k0_dev33_eq c)) (slot_of _ (k0_off3_eq c) _) rfl (sem_ag_send 1 1 rfl _) (sem_ag_recv 1 c (k0_off1_eq c 1) _) ?_
  refine ag_step P K c (j := 2) 1 (by decide) rfl (Fin.ext (k0_dev34_eq c)) (slot_of _ (k0_off3_eq c) _) rfl (sem_ag_send 1 2 rfl _) (sem_ag_recv 1 c (k0_off1_eq c 1) _) ?_
  refine ret_le c ?_
  refine bind_le c ?_
  rw [k0_part31_eq_skeleton]; unfold k0_part31_skel
  refine ag_step P K c (j := 3) 1 (by decide) rfl (Fin.ext (k0_dev35_eq c)) (slot_of _ (k0_off3_eq c) _) rfl (sem_ag_send 1 3 rfl _) (sem_ag_recv 1 c (k0_off1_eq c 1) _) ?_
  refine ag_step P K c (j := 4) 1 (by decide) rfl (Fin.ext (k0_dev36_eq c)) (slot_of _ (k0_off3_eq c) _) rfl (sem_ag_send 1 4 rfl _) (sem_ag_recv 1 c (k0_off1_eq c 1) _) ?_
  refine ag_step P K c (j := 5) 1 (by decide) rfl (Fin.ext (k0_dev37_eq c)) (slot_of _ (k0_off3_eq c) _) rfl (sem_ag_send 1 5 rfl _) (sem_ag_recv 1 c (k0_off1_eq c 1) _) ?_
  refine ret_le c ?_
  refine bind_le c ?_
  rw [k0_part32_eq_skeleton]; unfold k0_part32_skel
  refine ag_step P K c (j := 6) 1 (by decide) rfl (Fin.ext (k0_dev38_eq c)) (slot_of _ (k0_off3_eq c) _) rfl (sem_ag_send 1 6 rfl _) (sem_ag_recv 1 c (k0_off1_eq c 1) _) ?_
  refine ag_step P K c (j := 7) 1 (by decide) rfl (Fin.ext (k0_dev39_eq c)) (slot_of _ (k0_off3_eq c) _) rfl (sem_ag_send 1 7 rfl _) (sem_ag_recv 1 c (k0_off1_eq c 1) _) ?_
  refine (tr_ag1 P K c a5).trans ?_
  refine wait_step P K c (j := 0) 3 0 0 (by decide) (by decide) (above_zero 3) (sem_rs_send 0 0 rfl _) ?_
  refine ret_le c ?_
  refine bind_le c ?_
  rw [k0_part33_eq_skeleton]; unfold k0_part33_skel
  refine wait_step P K c (j := 1) 3 0 0 (by decide) (by decide) (above_zero 3) (sem_rs_send 0 1 rfl _) ?_
  refine wait_step P K c (j := 2) 3 0 0 (by decide) (by decide) (above_zero 3) (sem_rs_send 0 2 rfl _) ?_
  refine wait_step P K c (j := 3) 3 0 0 (by decide) (by decide) (above_zero 3) (sem_rs_send 0 3 rfl _) ?_
  refine wait_step P K c (j := 4) 3 0 0 (by decide) (by decide) (above_zero 3) (sem_rs_send 0 4 rfl _) ?_
  refine ret_le c ?_
  refine bind_le c ?_
  rw [k0_part34_eq_skeleton]; unfold k0_part34_skel
  refine wait_step P K c (j := 5) 3 0 0 (by decide) (by decide) (above_zero 3) (sem_rs_send 0 5 rfl _) ?_
  refine wait_step P K c (j := 6) 3 0 0 (by decide) (by decide) (above_zero 3) (sem_rs_send 0 6 rfl _) ?_
  refine wait_step P K c (j := 7) 3 0 0 (by decide) (by decide) (above_zero 3) (sem_rs_send 0 7 rfl _) ?_
  refine tr_one.trans ?_
  refine wait_step P K c (j := 0) 3 0 1 (by decide) (by decide) (above_zero 3) (sem_rs_send 1 0 rfl _) ?_
  refine ret_le c ?_
  refine bind_le c ?_
  rw [k0_part35_eq_skeleton]; unfold k0_part35_skel
  refine wait_step P K c (j := 1) 3 0 1 (by decide) (by decide) (above_zero 3) (sem_rs_send 1 1 rfl _) ?_
  refine wait_step P K c (j := 2) 3 0 1 (by decide) (by decide) (above_zero 3) (sem_rs_send 1 2 rfl _) ?_
  refine wait_step P K c (j := 3) 3 0 1 (by decide) (by decide) (above_zero 3) (sem_rs_send 1 3 rfl _) ?_
  refine wait_step P K c (j := 4) 3 0 1 (by decide) (by decide) (above_zero 3) (sem_rs_send 1 4 rfl _) ?_
  refine ret_le c ?_
  refine bind_le c ?_
  rw [k0_part36_eq_skeleton]; unfold k0_part36_skel
  refine wait_step P K c (j := 5) 3 0 1 (by decide) (by decide) (above_zero 3) (sem_rs_send 1 5 rfl _) ?_
  refine wait_step P K c (j := 6) 3 0 1 (by decide) (by decide) (above_zero 3) (sem_rs_send 1 6 rfl _) ?_
  refine wait_step P K c (j := 7) 3 0 1 (by decide) (by decide) (above_zero 3) (sem_rs_send 1 7 rfl _) ?_
  refine tr_pair.trans ?_
  refine wait_step P K c (j := 0) 3 3 0 (by decide) (by decide) (above_zero 3) (sem_ag_recv 0 0 rfl _) ?_
  refine ag_load P K c 0 (by decide) rfl HEq.rfl ?_
  refine out_load P c (by decide) rfl fun _ => ?_
  refine ret_le c ?_
  refine bind_le c ?_
  rw [k0_part37_eq_skeleton]; unfold k0_part37_skel
  refine out_store P c (by decide) rfl HEq.rfl ?_
  refine wait_step P K c (j := 1) 3 3 0 (by decide) (by decide) (above_zero 3) (sem_ag_recv 0 1 rfl _) ?_
  refine ag_load P K c 0 (by decide) rfl HEq.rfl ?_
  refine out_load P c (by decide) rfl fun _ => ?_
  refine out_store P c (by decide) rfl HEq.rfl ?_
  refine wait_step P K c (j := 2) 3 3 0 (by decide) (by decide) (above_zero 3) (sem_ag_recv 0 2 rfl _) ?_
  refine ag_load P K c 0 (by decide) rfl HEq.rfl ?_
  refine ret_le c ?_
  refine bind_le c ?_
  rw [k0_part38_eq_skeleton]; unfold k0_part38_skel
  refine out_load P c (by decide) rfl fun _ => ?_
  refine out_store P c (by decide) rfl HEq.rfl ?_
  refine wait_step P K c (j := 3) 3 3 0 (by decide) (by decide) (above_zero 3) (sem_ag_recv 0 3 rfl _) ?_
  refine ag_load P K c 0 (by decide) rfl HEq.rfl ?_
  refine out_load P c (by decide) rfl fun _ => ?_
  refine out_store P c (by decide) rfl HEq.rfl ?_
  refine wait_step P K c (j := 4) 3 3 0 (by decide) (by decide) (above_zero 3) (sem_ag_recv 0 4 rfl _) ?_
  refine ret_le c ?_
  refine bind_le c ?_
  rw [k0_part39_eq_skeleton]; unfold k0_part39_skel
  refine ag_load P K c 0 (by decide) rfl HEq.rfl ?_
  refine out_load P c (by decide) rfl fun _ => ?_
  refine out_store P c (by decide) rfl HEq.rfl ?_
  refine wait_step P K c (j := 5) 3 3 0 (by decide) (by decide) (above_zero 3) (sem_ag_recv 0 5 rfl _) ?_
  refine ag_load P K c 0 (by decide) rfl HEq.rfl ?_
  refine out_load P c (by decide) rfl fun _ => ?_
  refine out_store P c (by decide) rfl HEq.rfl ?_
  refine ret_le c ?_
  refine bind_le c ?_
  rw [k0_part40_eq_skeleton]; unfold k0_part40_skel
  refine wait_step P K c (j := 6) 3 3 0 (by decide) (by decide) (above_zero 3) (sem_ag_recv 0 6 rfl _) ?_
  refine ag_load P K c 0 (by decide) rfl HEq.rfl ?_
  refine out_load P c (by decide) rfl fun _ => ?_
  refine out_store P c (by decide) rfl HEq.rfl ?_
  refine wait_step P K c (j := 7) 3 3 0 (by decide) (by decide) (above_zero 3) (sem_ag_recv 0 7 rfl _) ?_
  refine ag_load P K c 0 (by decide) rfl HEq.rfl ?_
  refine out_load P c (by decide) rfl fun _ => ?_
  refine out_store P c (by decide) rfl HEq.rfl ?_
  refine (tr_fold.trans tr_pair).trans ?_
  refine ret_le c ?_
  refine bind_le c ?_
  rw [k0_part41_eq_skeleton]; unfold k0_part41_skel
  refine wait_step P K c (j := 0) 3 3 1 (by decide) (by decide) (above_zero 3) (sem_ag_recv 1 0 rfl _) ?_
  refine ag_load P K c 1 (by decide) rfl HEq.rfl ?_
  refine out_load P c (by decide) rfl fun _ => ?_
  refine out_store P c (by decide) rfl HEq.rfl ?_
  refine wait_step P K c (j := 1) 3 3 1 (by decide) (by decide) (above_zero 3) (sem_ag_recv 1 1 rfl _) ?_
  refine ag_load P K c 1 (by decide) rfl HEq.rfl ?_
  refine out_load P c (by decide) rfl fun _ => ?_
  refine out_store P c (by decide) rfl HEq.rfl ?_
  refine ret_le c ?_
  refine bind_le c ?_
  rw [k0_part42_eq_skeleton]; unfold k0_part42_skel
  refine wait_step P K c (j := 2) 3 3 1 (by decide) (by decide) (above_zero 3) (sem_ag_recv 1 2 rfl _) ?_
  refine ag_load P K c 1 (by decide) rfl HEq.rfl ?_
  refine out_load P c (by decide) rfl fun _ => ?_
  refine out_store P c (by decide) rfl HEq.rfl ?_
  refine wait_step P K c (j := 3) 3 3 1 (by decide) (by decide) (above_zero 3) (sem_ag_recv 1 3 rfl _) ?_
  refine ag_load P K c 1 (by decide) rfl HEq.rfl ?_
  refine out_load P c (by decide) rfl fun _ => ?_
  refine out_store P c (by decide) rfl HEq.rfl ?_
  refine ret_le c ?_
  refine bind_le c ?_
  rw [k0_part43_eq_skeleton]; unfold k0_part43_skel
  refine wait_step P K c (j := 4) 3 3 1 (by decide) (by decide) (above_zero 3) (sem_ag_recv 1 4 rfl _) ?_
  refine ag_load P K c 1 (by decide) rfl HEq.rfl ?_
  refine out_load P c (by decide) rfl fun _ => ?_
  refine out_store P c (by decide) rfl HEq.rfl ?_
  refine wait_step P K c (j := 5) 3 3 1 (by decide) (by decide) (above_zero 3) (sem_ag_recv 1 5 rfl _) ?_
  refine ag_load P K c 1 (by decide) rfl HEq.rfl ?_
  refine out_load P c (by decide) rfl fun _ => ?_
  refine out_store P c (by decide) rfl HEq.rfl ?_
  refine ret_le c ?_
  refine bind_le c ?_
  rw [k0_part44_eq_skeleton]; unfold k0_part44_skel
  refine wait_step P K c (j := 6) 3 3 1 (by decide) (by decide) (above_zero 3) (sem_ag_recv 1 6 rfl _) ?_
  refine ag_load P K c 1 (by decide) rfl HEq.rfl ?_
  refine out_load P c (by decide) rfl fun _ => ?_
  refine out_store P c (by decide) rfl HEq.rfl ?_
  refine wait_step P K c (j := 7) 3 3 1 (by decide) (by decide) (above_zero 3) (sem_ag_recv 1 7 rfl _) ?_
  refine ag_load P K c 1 (by decide) rfl HEq.rfl ?_
  refine out_load P c (by decide) rfl fun _ => ?_
  refine ret_le c ?_
  refine bind_le c ?_
  rw [k0_part45_eq_skeleton]; unfold k0_part45_skel
  refine out_store P c (by decide) rfl HEq.rfl ?_
  refine (tr_fold.trans tr_one).trans ?_
  refine wait_step P K c (j := 0) 3 2 0 (by decide) (by decide) (above_zero 3) (sem_ag_send 0 0 rfl _) ?_
  refine wait_step P K c (j := 1) 3 2 0 (by decide) (by decide) (above_zero 3) (sem_ag_send 0 1 rfl _) ?_
  refine wait_step P K c (j := 2) 3 2 0 (by decide) (by decide) (above_zero 3) (sem_ag_send 0 2 rfl _) ?_
  refine ret_le c ?_
  refine bind_le c ?_
  rw [k0_part46_eq_skeleton]; unfold k0_part46_skel
  refine wait_step P K c (j := 3) 3 2 0 (by decide) (by decide) (above_zero 3) (sem_ag_send 0 3 rfl _) ?_
  refine wait_step P K c (j := 4) 3 2 0 (by decide) (by decide) (above_zero 3) (sem_ag_send 0 4 rfl _) ?_
  refine wait_step P K c (j := 5) 3 2 0 (by decide) (by decide) (above_zero 3) (sem_ag_send 0 5 rfl _) ?_
  refine wait_step P K c (j := 6) 3 2 0 (by decide) (by decide) (above_zero 3) (sem_ag_send 0 6 rfl _) ?_
  refine ret_le c ?_
  refine bind_le c ?_
  rw [k0_part47_eq_skeleton]; unfold k0_part47_skel
  refine wait_step P K c (j := 7) 3 2 0 (by decide) (by decide) (above_zero 3) (sem_ag_send 0 7 rfl _) ?_
  refine tr_last.trans ?_
  refine wait_step P K c (j := 0) 3 2 1 (by decide) (by decide) (above_zero 3) (sem_ag_send 1 0 rfl _) ?_
  refine wait_step P K c (j := 1) 3 2 1 (by decide) (by decide) (above_zero 3) (sem_ag_send 1 1 rfl _) ?_
  refine wait_step P K c (j := 2) 3 2 1 (by decide) (by decide) (above_zero 3) (sem_ag_send 1 2 rfl _) ?_
  refine ret_le c ?_
  refine bind_le c ?_
  rw [k0_part48_eq_skeleton]; unfold k0_part48_skel
  refine wait_step P K c (j := 3) 3 2 1 (by decide) (by decide) (above_zero 3) (sem_ag_send 1 3 rfl _) ?_
  refine wait_step P K c (j := 4) 3 2 1 (by decide) (by decide) (above_zero 3) (sem_ag_send 1 4 rfl _) ?_
  refine wait_step P K c (j := 5) 3 2 1 (by decide) (by decide) (above_zero 3) (sem_ag_send 1 5 rfl _) ?_
  refine wait_step P K c (j := 6) 3 2 1 (by decide) (by decide) (above_zero 3) (sem_ag_send 1 6 rfl _) ?_
  refine ret_le c ?_
  refine wait_step P K c (j := 7) 3 2 1 (by decide) (by decide) (above_zero 3) (sem_ag_send 1 7 rfl _) ?_
  exact ret_le c ((tr_end P K c a0 a1 a2 a3 a4 a5 x0 x1 x2 x3 x4).trans HQ)

end Cert.KernelIdeal.Talk
-- ==== Proof.Region.lean ====
/-
  The region: its proof data, its one point, and its segment of @main.
-/
module

public import proofs.«01_k».proof.Proof.Ghost
public import proofs.«01_k».proof.Proof.Body
public import proofs.«01_k».proof.Proof.Gen.KernelIdeal.Points
public import Idealize.ShloMosaic.Lib.Pipeline.ValueKit
public import Idealize.ShloMosaic.Lib.Pipeline.RegionTalk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ)

/-! ## Contents -/

/-- Device `d`'s contribution to half `b` of the result, from its operands. -/
def parts (d : Dev nD) (b : Fin 2) : Vec F S512x768 .bf16 :=
  partOf b (V1 m d main_v5) (V1 m d main_arg1) (V1 m d main_v17) (V1 m d main_v19) (V1 m d main_arg4)

/-- What the kernel leaves in its result. -/
def res : Vec F S1024x768 .f32 := outOf fun t => outVal (red (parts m) t.2 t.1)

/-- The buffers after the region. -/
def W2 (c : Dev nD) : Valuation τ sig (Elt F) := Function.update (V1 m c) main_v20 (res m)
/-- The buffers that the region leaves, for the host's segments. -/
def outs : Outs (F := F) := fun _ r c => W2 m c r

/-- The proof data of the region. -/
def dat (c : Dev nD) : Pipeline.Dat τ (Elt F) Unit ℕ UU ℕ cfg0 c where
  A w := V1 m c (Pipeline.arrRef spec0 w)
  after w _ := match w with
    | 0 => V1 m c main_v5
    | 1 => V1 m c main_arg1
    | 2 => V1 m c main_v17
    | 3 => V1 m c main_v19
    | 4 => V1 m c main_arg4
    | 5 => res m
    | ⟨_ + 6, h⟩ => absurd h (Nat.not_lt.2 (Nat.le_add_left _ _))
  Φ t := if t.val = 0 then iprop(Xk (parts m) c ∗ scratch (F := F) c ∗ ∃ r, prngReg c r) else iprop(zeros (F := F) c ∗ scratch (F := F) c ∗ ∃ r, prngReg c r)
  q _ := fullShare
  owed t := if t.val = 0 then O₀ c else 0

/-- The region's data, by its number. -/
def pdats : (p : Fin 1) → (c : Dev nD) → Pipeline.Dat τ (Elt F) Unit ℕ UU ℕ (cfgs p) c
  | 0 => dat m
  | ⟨_ + 1, h⟩ => absurd h (Nat.not_lt.2 (Nat.le_add_left _ _))

/-- The first step's place. -/
theorem from_zero (n k : ℕ) : 0 * n + k = k := by omega

/-- What the fetch of a window leaves, given what its block reads of the array, where it fills the window. -/
theorem whole_fetched {c : Dev nD} (D : Pipeline.Dat τ (Elt F) Unit ℕ UU ℕ cfg0 c) (w : Fin 6) (X : (cfg0.win w).block.Idx → Elt F (cfg0.win w).elt)
    (d : (cfg0.win w).block.Idx → Elt F (cfg0.win w).elt)
    {hb : ∀ a, (cfg0.win w).block.size a ≤ ((cfg0.win w).xblock (cfg0.grid.coords t0_0)).size a}
    (h : ∀ j, D.blockOf w t0_0 (fun a => ⟨(j a).val, lt_of_lt_of_le (j a).isLt (hb a)⟩) = X j) :
    D.fetched w t0_0 d = X := by
  unfold Dat.fetched Pipeline.Window.fill
  funext j
  rw [dif_pos ((Pipeline.Window.moved_iff _ _ _).mpr fun a => lt_of_lt_of_le (j a).isLt (hb a))]
  exact h j

/-- The first window holds the rows of the input. -/
theorem before0 (c : Dev nD) (d) : (dat m c).before (0 : Fin 6) t0_0 d = V1 m c main_v5 := by
  unfold Dat.before; rw [if_pos (fetch0_0 t0_0)]
  exact whole_fetched (hb := fun _ => Nat.le_refl _) (dat m c) 0 (V1 m c main_v5) d fun j => by
    blk_simp
    refine congrArg (V1 m c main_v5) (funext fun a => Fin.ext ?_)
    fin_cases a <;> (blk_simp; exact from_zero _ _)
/-- The second window holds the query weights. -/
theorem before1 (c : Dev nD) (d) : (dat m c).before (1 : Fin 6) t0_0 d = V1 m c main_arg1 := by
  unfold Dat.before; rw [if_pos (fetch0_1 t0_0)]
  exact whole_fetched (hb := fun _ => Nat.le_refl _) (dat m c) 1 (V1 m c main_arg1) d fun j => by
    blk_simp
    refine congrArg (V1 m c main_arg1) (funext fun a => Fin.ext ?_)
    fin_cases a <;> (blk_simp; exact from_zero _ _)
/-- The third window holds the device's keys. -/
theorem before2 (c : Dev nD) (d) : (dat m c).before (2 : Fin 6) t0_0 d = V1 m c main_v17 := by
  unfold Dat.before; rw [if_pos (fetch0_2 t0_0)]
  exact whole_fetched (hb := fun _ => Nat.le_refl _) (dat m c) 2 (V1 m c main_v17) d fun j => by
    blk_simp
    refine congrArg (V1 m c main_v17) (funext fun a => Fin.ext ?_)
    fin_cases a <;> (blk_simp; exact from_zero _ _)
/-- The fourth window holds the device's values. -/
theorem before3 (c : Dev nD) (d) : (dat m c).before (3 : Fin 6) t0_0 d = V1 m c main_v19 := by
  unfold Dat.before; rw [if_pos (fetch0_3 t0_0)]
  exact whole_fetched (hb := fun _ => Nat.le_refl _) (dat m c) 3 (V1 m c main_v19) d fun j => by
    blk_simp
    refine congrArg (V1 m c main_v19) (funext fun a => Fin.ext ?_)
    fin_cases a <;> (blk_simp; exact from_zero _ _)
/-- The fifth window holds the output weights. -/
theorem before4 (c : Dev nD) (d) : (dat m c).before (4 : Fin 6) t0_0 d = V1 m c main_arg4 := by
  unfold Dat.before; rw [if_pos (fetch0_4 t0_0)]
  exact whole_fetched (hb := fun _ => Nat.le_refl _) (dat m c) 4 (V1 m c main_arg4) d fun j => by
    blk_simp
    refine congrArg (V1 m c main_arg4) (funext fun a => Fin.ext ?_)
    fin_cases a <;> (blk_simp; exact from_zero _ _)

/-- After the region the output array is the kernel's result. -/
theorem arr_out (c : Dev nD) : (dat m c).arrAt (5 : Fin 6) cfg0.N = res m := by
  refine (dat m c).arrAt_eq_of_after_last (5 : Fin 6) t0_0 (by decide +kernel) _ fun j => ?_
  blk_simp
  dsimp only [dat]

/-! ## The body at its point -/

/-- The body that the region runs is the printed one. -/
theorem body_row : defs₀ (F := F) .tc cfg0.body (cfg0.bodyArgs t0_0 (cfg0.slots t0_0)) = bodyAt0 t0_0 := by
  unfold defs₀; rw [Defs.onTc_tc]

/-- What a device owes, as the region states it. -/
theorem owesAt_intro (c : Dev nD) (t : Fin (cfg0.N + 1)) (O : CellTallies nD τ sig Unit) (h0 : (dat m c).owed t = O) :
    ow (F := F) c O ⊢ ((dat m c).owesAt () t : sProp 𝕄) := by
  unfold ow Dat.owesAt Pipeline.owesWithin Dat.bound; rw [h0]
  iintro ⟨%W, HO⟩; iexists W; isplitr; · ipureintro; exact fun _ _ => Or.inl trivial
  iexact HO
/-- What the region states is what the device owes. -/
theorem owesAt_elim (c : Dev nD) (t : Fin (cfg0.N + 1)) (O : CellTallies nD τ sig Unit) (h0 : (dat m c).owed t = O) :
    ((dat m c).owesAt () t : sProp 𝕄) ⊢ ow (F := F) c O := by
  unfold ow Dat.owesAt Pipeline.owesWithin; rw [h0]
  iintro ⟨%W, -, HO⟩; iexists W; iexact HO

/-- At the start the whole debt is owed. -/
theorem owed_zero (c : Dev nD) : (dat m c).owed 0 = O₀ c := by
  show (if ((0 : Fin (cfg0.N + 1)).val = 0) then O₀ c else 0) = O₀ c; exact if_pos rfl
/-- Before the body the whole debt is owed. -/
theorem owed_first (c : Dev nD) : (dat m c).owed (Fin.castSucc (n := cfg0.N) t0_0) = O₀ c := by
  show (if (Fin.castSucc (n := cfg0.N) t0_0).val = 0 then O₀ c else 0) = O₀ c; exact if_pos rfl
/-- After the body nothing is owed. -/
theorem owed_succ (c : Dev nD) : (dat m c).owed (Fin.succ (n := cfg0.N) t0_0) = 0 := by
  show (if (Fin.succ (n := cfg0.N) t0_0).val = 0 then O₀ c else 0) = 0; exact if_neg (Nat.succ_ne_zero _)
/-- At the end nothing is owed. -/
theorem owed_last (c : Dev nD) : (dat m c).owed (Fin.last cfg0.N) = 0 := by
  show (if (Fin.last cfg0.N).val = 0 then O₀ c else 0) = 0
  rw [Fin.val_last, if_neg (by rw [show cfg0.N = 1 from N_0]; decide)]

/-- The region's one point: the body's run. -/
theorem body (c : Dev nD) : BodyObligation (dat m c) defs₀ 𝒱₀ () Set.univ := fun t => by
  obtain rfl := fin_N0 t
  rw [bigSep_W0, bigSep_W0, body_row]
  rw [show (dat m c).Φ (Fin.castSucc (n := cfg0.N) t0_0) = iprop(Xk (parts m) c ∗ scratch (F := F) c ∗ ∃ r, prngReg c r) from rfl,
    show (dat m c).Φ (Fin.succ (n := cfg0.N) t0_0) = iprop(zeros (F := F) c ∗ scratch (F := F) c ∗ ∃ r, prngReg c r) from rfl]
  unfold Xk
  iintro ⟨⟨⟨%K, Hr, Ht⟩, Hs, Hp⟩, HO, ⟨%d0, H0⟩, ⟨%d1, H1⟩, ⟨%d2, H2⟩, ⟨%d3, H3⟩, ⟨%d4, H4⟩, ⟨%d5, H5⟩⟩
  rw [before0, before1, before2, before3, before4]
  ihave HO := (owesAt_elim m c _ (O₀ c) (owed_first m c)) $$ HO
  iapply (wp_mono frame _ _ (Q := fun _ => iprop(fin (parts m) c _ _ _ _ _ _ (V1 m c main_v5) (V1 m c main_arg1) (V1 m c main_v17) (V1 m c main_v19) (V1 m c main_arg4)
      ∗ ∃ r, prngReg c r)) fun _ => ?_)
  rotate_left
  · iapply (wp_frame_r frame _ _)
    isplitr [Hp]
    · iapply (body_spec (parts m) K c _ _ _ _ _ _ _ _ _ _ _ _ (V1 m c main_v5) (V1 m c main_arg1) (V1 m c main_v17) (V1 m c main_v19) (V1 m c main_arg4)
        (fun _ => rfl) (Entails.refl _))
      isplitl [Hr]; · iexact Hr
      isplitl [HO]; · iexact HO
      isplitl [Ht]; · iexact Ht
      isplitr [H5 Hs]
      · unfold wins
        isplitl [H0]; · iexact H0
        isplitl [H1]; · iexact H1
        isplitl [H2]; · iexact H2
        isplitl [H3] <;> iassumption
      isplitl [H5]; · iexists _; iexact H5
      iexact Hs
    · iexact Hp
  · unfold fin wins
    iintro ⟨⟨HO, ⟨H0, H1, H2, H3, H4⟩, H5, Hs, Hz⟩, Hp⟩
    isplitl [Hz Hs Hp]
    · isplitl [Hz]; · iexact Hz
      isplitl [Hs] <;> iassumption
    isplitl [HO]
    · iapply (owesAt_intro m c _ 0 (owed_succ m c)); iexact HO
    isplitl [H0]; · iexact H0
    isplitl [H1]; · iexact H1
    isplitl [H2]; · iexact H2
    isplitl [H3]; · iexact H3
    isplitl [H4]; · iexact H4
    iexact H5

/-! ## The region's segment -/

/-- The region's scratch is the kernel's five scratch buffers. -/
theorem scratch_eq (c : Dev nD) : (Pipeline.scopedRest (Ix := Unit) (Name := ℕ) (U := UU) (Lvl := ℕ) (Val := Elt F) spec0 c : sProp 𝕄) = scratch (F := F) c := by
  rw [scopedRest0_eq]
  unfold scratch a7Any
  simp only [owns_whole]
  rfl

/-- Into the region: what the body starts from. -/
theorem hin (c : Dev nD) :
    iprop(Pipeline.scopedRest (Pipeline.pin (pcfgs (F := F)) adm 0).spec c ∗ (∃ r, prngReg c r) ∗ StableHlo.held (c.tc : Thread nD τ) ∅ (V1 m c) ∗ Xk (parts m) c)
      ⊢ (pdats m 0 c).Φ 0 := by
  rw [show (pdats m 0 c).Φ 0 = iprop(Xk (parts m) c ∗ scratch (F := F) c ∗ ∃ r, prngReg c r) from rfl, ← scratch_eq]
  iintro ⟨Hs, Hp, -, HX⟩
  isplitl [HX]; · iexact HX
  isplitl [Hs]; · iexact Hs
  iexact Hp

/-- Out of the region: what the body ends with. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c)
      ∗ Pipeline.ownSems0 osem c ∗ Yk (F := F) c) := by
  rw [show (pdats m 0 c).Φ (Fin.last (Pipeline.pin (pcfgs (F := F)) adm 0).N) = iprop(zeros (F := F) c ∗ scratch (F := F) c ∗ ∃ r, prngReg c r) from by
    show (if (Fin.last cfg0.N).val = 0 then iprop(Xk (parts m) c ∗ scratch (F := F) c ∗ ∃ r, prngReg c r)
      else iprop(zeros (F := F) c ∗ scratch (F := F) c ∗ ∃ r, prngReg c r) : sProp 𝕄) = _
    rw [Fin.val_last, if_neg (by rw [show cfg0.N = 1 from N_0]; decide)], ← scratch_eq]
  unfold zeros Yk
  iintro ⟨⟨Hb, Hz⟩, Hs, Hp⟩
  isplitl [Hs]; · iexact Hs
  isplitl [Hp]; · iexact Hp
  isplitr
  · unfold StableHlo.held; rw [bigSep_empty]; iempintro
  isplitl [Hz]; · unfold Pipeline.ownSems0 osem; iexact Hz
  iexact Hb

/-- Whatever is owed is owed at a cell with a level above zero. -/
theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · obtain ⟨h1, h2⟩ := above_O₀ c g i h
    exact ⟨by unfold L; rw [if_pos h1]; exact Finset.mem_singleton_self _, h2⟩
  · exact absurd h (Nat.lt_irrefl 0)

/-- The staging cells lie below every cell of the schedule. -/
theorem stage_low : ∀ (w : Fin cfg0.W) (s : Fin (cfg0.win w).nbuf), lvOf (.dma ((cfg0.win w).sem s)) ≤ 0 := by decide

/-- The kernel's semaphores are its own and named once. -/
theorem osem_facts : Pipeline.OwnSemFacts spec0 osem := by decide

/-- The launch's facts about the region. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the run that no window's array names. -/
def rest : Finset (DevRef τ sig) := Pipeline.ucRefs τ sig \ Pipeline.arrRefs (τ := τ) spec0

/-- The output array is one of the region's arrays. -/
theorem out_mem : (Proc.devRef .tc main_v20 : DevRef τ sig) ∈ Pipeline.arrRefs (τ := τ) spec0 := by
  unfold Pipeline.arrRefs
  exact Finset.mem_map_of_mem _ (Finset.mem_image.mpr ⟨(5 : Fin 6), Finset.mem_univ _, rfl⟩)

/-- The region changes no buffer but its output. -/
theorem rest_eq (c : Dev nD) (b : DevRef τ sig) (hb : b ∈ rest \ ∅) : W2 m c b = V1 m c b := by
  unfold W2
  refine Function.update_of_ne (fun h => ?_) _ _
  subst h
  exact (Finset.mem_sdiff.mp (Finset.mem_sdiff.mp hb).1).2 out_mem

/-- At the start each array is what the host left. -/
theorem arr_first (c : Dev nD) (w : Fin cfg0.W) : (dat m c).arrAt w 0 = V1 m c (Proc.devRef .tc (Pipeline.arrRef spec0 w)) := by
  match w with
  | ⟨0, _⟩ => rfl
  | ⟨1, _⟩ => rfl
  | ⟨2, _⟩ => rfl
  | ⟨3, _⟩ => rfl
  | ⟨4, _⟩ => rfl
  | ⟨5, _⟩ => rfl

/-- At the end each array is what the buffers hold after the region. -/
theorem arr_last (c : Dev nD) (w : Fin cfg0.W) : (dat m c).arrAt w cfg0.N = W2 m c (Proc.devRef .tc (Pipeline.arrRef spec0 w)) := by
  have hne (r : Ref sig .tc) (h : r ≠ main_v20) : W2 m c (Proc.devRef .tc r) = V1 m c (Proc.devRef .tc r) :=
    Function.update_of_ne (StableHlo.devRef_ne_of_ne h) _ _
  match w with
  | ⟨0, h⟩ => exact ((dat m c).arrAt_in ⟨0, h⟩ rfl _).trans (hne main_v5 (by decide)).symm
  | ⟨1, h⟩ => exact ((dat m c).arrAt_in ⟨1, h⟩ rfl _).trans (hne main_arg1 (by decide)).symm
  | ⟨2, h⟩ => exact ((dat m c).arrAt_in ⟨2, h⟩ rfl _).trans (hne main_v17 (by decide)).symm
  | ⟨3, h⟩ => exact ((dat m c).arrAt_in ⟨3, h⟩ rfl _).trans (hne main_v19 (by decide)).symm
  | ⟨4, h⟩ => exact ((dat m c).arrAt_in ⟨4, h⟩ rfl _).trans (hne main_arg4 (by decide)).symm
  | ⟨5, h⟩ => exact (arr_out m c).trans (Function.update_self (Proc.devRef .tc main_v20 : DevRef τ sig) (res m) (V1 m c)).symm

set_option backward.isDefEq.respectTransparency.types false in
/-- The kernel's region: entered with the schedule's resources and all that the device owes, left owing nothing. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ rest (Finset.empty_subset _) kit rfl (fun c => (body m c).loose)
    (fun _ => 0) O₀ (fun c => (owed_zero m c).trans (zero_add _).symm) (owed_last m) (fun _ => rfl) (fun c w => (pdats m 0 c).share_full (fun _ => rfl) w)
    (V1 m) (W2 m) (rest_eq m)
    (Tk (parts m)) (Yk (F := F)) (Xk (parts m)) (Yk (F := F)) (hopen (parts m)) (hin m) (hout m)
    (fun c => by iintro H; imodintro; iexact H)
    (fun _ => 0)
    ⟨fun c w s => by rw [L_tc]; exact Finset.mem_singleton_self _, fun c w s => stage_low w s, fun c t g i h => cut m c t g i h⟩
    (fun _ => iprop(emp))
    (arr_first m) (arr_last m)

end Cert.KernelIdeal.Talk
-- ==== Proof.Run.lean ====
/- The run of the whole program: from any memory with zero counters, every weakly fair execution of @main on the eight devices ends with each argument as
   launched, the result at what the region's output reshapes to, and every counter back at zero. Over any float values. -/
module

public import proofs.«01_k».proof.Proof.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
open Idealize.ShloMosaic.Pipeline (Dat Seg HostSeg RegionSeg)

variable (m : (ℓ : Loc nD τ sig) → Buf (Elt F) ℓ) (ρ : Dev nD → PrngReg)

/-- What rides beside the buffers: the schedule's resources before the region, the barrier cell at zero after it. -/
def E (i : Fin 2) (c : Dev nD) : sProp 𝕄 :=
  if i = 0 then R (parts m) c else iprop(semVal (barCell c) 0 ∗ ∃ W, owes (c : Thread nD τ) (0 : CellTallies nD τ sig Unit) W)

/-- The buffers after the region. -/
abbrev V2' (c : Dev nD) : Valuation τ sig (Elt F) := V2 m (outs m) c
/-- The buffers at the end. -/
abbrev V3' (c : Dev nD) : Valuation τ sig (Elt F) := V3 m (outs m) c

/-- The region's buffers are those that the host's segments name. -/
theorem W2_eq (c : Dev nD) : W2 m c = V2' m c := by
  show Function.update (V1 m c) main_v20 (res m) = Function.update (V1 m c) main_v20 (W2 m c main_v20)
  congr 1

/-- The region's arrays are buffers outside it. -/
theorem arr_sub : Pipeline.arrRefs (τ := τ) spec0 ⊆ Pipeline.ucRefs τ sig := Pipeline.arrRefs_sub_ucRefs spec0 (by decide)

/-- Into the region's segment, from the buffers before it. -/
theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk (parts m) c ∗ ∃ Wd, owes (c : Thread nD τ) (0 + O₀ c) Wd)
  rw [show E m 0 c = R (parts m) c from if_pos rfl, zero_add, StableHlo.held_sub_split (c.tc : Thread nD τ) arr_sub (V1 m c)]
  unfold R rest
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- Out of the region's segment, to the buffers after it. -/
theorem reg_post (c : Dev nD) : (reg m).post c ⊢ iprop(StableHlo.held (c : Thread nD τ) (Pipeline.ucRefs τ sig) (V2' m c) ∗ E m 1 c) := by
  show iprop(StableHlo.held (c.tc : Thread nD τ) (Pipeline.arrRefs (τ := τ) spec0) (W2 m c) ∗ (∃ r, prngReg c r)
    ∗ (StableHlo.held (c.tc : Thread nD τ) rest (W2 m c) ∗ emp) ∗ Yk (F := F) c ∗ ∃ Wd, owes (c : Thread nD τ) (0 : CellTallies nD τ sig Unit) Wd) ⊢ _
  rw [show E m 1 c = iprop(semVal (barCell c) 0 ∗ ∃ W, owes (c : Thread nD τ) (0 : CellTallies nD τ sig Unit) W) from if_neg (by decide), ← W2_eq,
    StableHlo.held_sub_split (c.tc : Thread nD τ) arr_sub (W2 m c)]
  unfold Yk rest
  iintro ⟨Ha, -, ⟨Hr, -⟩, Hb, HO⟩
  isplitl [Ha Hr]
  · isplitl [Ha] <;> iassumption
  isplitl [Hb]; · iexact Hb
  iexact HO

/-- The program's last thread state: every buffer at the last valuation, the barrier cell at zero. -/
abbrev Tₙ (c : Dev nD) : sProp 𝕄 := iprop(StableHlo.held (c : Thread nD τ) (Pipeline.ucRefs τ sig) (V3' m c) ∗ semVal (barCell c) 0)

/-- The only semaphore outside the region is the barrier. -/
theorem unscoped_eq : ∀ sm : SemLoc sig, sm.isScoped .tc = false → sm = .reg barrier0 := by decide

/-- A buffer outside the region is among those held. -/
theorem read_mem (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What a final state holds of one device. -/
def Ends (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_v21) = V3' m c main_v21

set_option backward.isDefEq.respectTransparency.types false in
/-- The run: every weakly fair execution ends, and every final state has the arguments as launched, the result at the last valuation on every device, and
    every counter at zero. -/
theorem run_main : θ_run defs (onTc (τ := τ) (main (F := F))) ⟨m, fun _ => 0, ρ⟩
    (fun r => (∀ c : Dev nD, Ends m c r.2.mem) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Seg.run_eq_chain,
        show (segs m (outs m) 𝒱₀ L lv (E m) () (pdats m) (reg m) c).map Seg.prog = [
          StableHlo.seq (hostOps0 c), Prog.lift (.customCall (Pipeline.entry 0) ()), StableHlo.seq hostOps1] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m (parts m)) (Tₙ := Tₙ m)
    (hch := fun c => ⟨.rfl, reg_pre m c, reg_post m c, by
      show iprop(StableHlo.held (c : Thread nD τ) (Pipeline.ucRefs τ sig) (V3' m c) ∗ E m 1 c)
        ⊢ iprop(Tₙ m c ∗ ∃ W, owes (c : Thread nD τ) (0 : CellTallies nD τ sig Unit) W)
      rw [show E m 1 c = iprop(semVal (barCell c) 0 ∗ ∃ W, owes (c : Thread nD τ) (0 : CellTallies nD τ sig Unit) W) from if_neg (by decide)]
      iintro ⟨Hh, Hb0, HO⟩
      isplitr [HO]
      · isplitl [Hh] <;> iassumption
      · iexact HO⟩)
    (hinit := init m ρ (parts m))
    (QY := fun c s => Ends m c s.mem ∧ s.sem (barCell c) = 0)
    (hfin := fun c s' => by
      dsimp only [Tₙ]; unfold StableHlo.held
      iintro ⟨⟨Hh, Hb0⟩, HSI⟩
      icombine HSI Hb0 gives %hb
      ihave Hr := (pointsTo_read_all (Pipeline.ucRefs τ sig) (fun b => ((c : Thread nD τ).1, b)) (V3' m c) s') $$ [Hh HSI]
      · isplitl [Hh] <;> iassumption
      icases Hr with ⟨%h, HSI⟩
      imodintro
      isplitr
      · ipureintro
        exact ⟨⟨(h _ (read_mem main_arg0 (by decide))).trans (V3_main_arg0 m _ c),
          (h _ (read_mem main_arg1 (by decide))).trans (V3_main_arg1 m _ c),
          (h _ (read_mem main_arg2 (by decide))).trans (V3_main_arg2 m _ c),
          (h _ (read_mem main_arg3 (by decide))).trans (V3_main_arg3 m _ c),
          (h _ (read_mem main_arg4 (by decide))).trans (V3_main_arg4 m _ c),
          h _ (read_mem main_v21 (by decide))⟩, by simpa using hb⟩
      · iexact HSI)
    (hQ := fun s h hs => ⟨fun c => (h c).1, sem_eq_zero hs fun c sm hsm => by
      obtain rfl := unscoped_eq sm hsm
      exact (h c).2⟩)

end Cert.KernelIdeal.Talk
-- ==== Proof.Same.lean ====
/- The kernel and its idealization are one text: over bit patterns their body tables are equal, so a run of the one is a run of the other. -/
module

public import proofs.«01_k».proof.Proof.Gen.Kernel
public import proofs.«01_k».proof.Proof.Gen.KernelIdeal
public import Idealize.ShloMosaic.Adequacy
public import Idealize.ShloMosaic.PureOps.BitExact

@[expose] public section

noncomputable section

namespace Cert.Same

open Idealize.ShloMosaic Idealize.SL.Sem

/-- The two body tables agree: one label, at which both run the same function. -/
theorem bodies : Cert.Kernel.defs₀ (F := Bits) = Cert.KernelIdeal.defs₀ (F := Bits) := by
  unfold Cert.Kernel.defs₀ Cert.KernelIdeal.defs₀
  refine congrArg Defs.onTc (funext fun i => funext fun a => ?_)
  match i, a with
  | 0, (t, s) => rfl

/-- So do the whole programs' tables. -/
theorem tables : Cert.Kernel.defs (F := Bits) = Cert.KernelIdeal.defs (F := Bits) :=
  congrArg (Pipeline.defs Cert.KernelIdeal.pcfgs) bodies

/-- A run of the idealization's text over bit patterns is a run of the kernel. -/
theorem run {m : (ℓ : Loc Cert.Kernel.nD Cert.Kernel.τ Cert.Kernel.sig) → Buf (Elt Bits) ℓ} {ρ : Dev Cert.Kernel.nD → PrngReg}
    {Q : (PUnit × MemSt Cert.Kernel.nD Cert.Kernel.τ Cert.Kernel.sig (Elt Bits)) → Prop}
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [tables]; exact h

end Cert.Same

end
-- ==== Proof.HostValue.lean ====
/- What the arrays the kernel's launch reads hold, in terms of the program's arguments. -/
module

public import proofs.«01_k».proof.Proof.Run
public import Idealize.ShloMosaic.Lib.Pointwise
public import Idealize.ShloMosaic.Lib.StableHlo.ReadAt
public import Idealize.ShloMosaic.Lib.Tactic.WordOmega

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

set_option maxRecDepth 16384

variable (m : (ℓ : Loc nD τ sig) → Buf (Elt Ideal) ℓ)

/-- The input's rows, the two halves one after the other. -/
theorem rows_apply (c : Dev nD) (b : Fin 2) (i : Fin 512) (d : Fin 768) (r : Fin 1024) (hr : r.val = 512 * b.val + i.val) :
    (V1 m c main_v5 : Vec Ideal S1024x768 .bf16) (ix2 r d) = (m (c.tc.loc main_arg0) : Vec Ideal S2x512x768 .bf16) (ix3 b i d) := by
  unfold V1
  after_reads_at
  refine congrArg (m (c.tc.loc main_arg0)) ?_
  congr 1 <;> apply Fin.ext <;> simp only [] <;> omega

/-- The first head of a device, in the host's words: the device's number times eight, wrapped where negative. -/
theorem first_head (c : Dev nD) :
    Scalar.select (IntOp.cmpi CmpIPredicate.slt (IntOp.muli (Host.remui (Host.divui (constantI S_ 32 c.word) (constantI S_ 32 1#32)) (constantI S_ 32 8#32) ix0) 8#32) 0#32)
        (IntOp.addi (IntOp.muli (Host.remui (Host.divui (constantI S_ 32 c.word) (constantI S_ 32 1#32)) (constantI S_ 32 8#32) ix0) 8#32) 64#32)
        (IntOp.muli (Host.remui (Host.divui (constantI S_ 32 c.word) (constantI S_ 32 1#32)) (constantI S_ 32 8#32) ix0) 8#32)
      = BitVec.ofNat 32 (8 * c.val) := by
  revert c
  decide

/-- The first head of device `c`, as the host stretch computes it before it reads the keys. -/
theorem start_keys (c : Dev nD) (j : S_.Idx) :
    (StableHlo.upto (hostOps0 c) (V0 m c) 17 (Proc.devRef .tc main_v9) : IVec S_ 32) j = BitVec.ofNat 32 (8 * c.val) := by
  after_reads_at
  exact first_head c

/-- The first head of device `c`, as the host stretch computes it before it reads the values. -/
theorem start_values (c : Dev nD) (j : S_.Idx) :
    (StableHlo.upto (hostOps0 c) (V0 m c) 28 (Proc.devRef .tc main_v14) : IVec S_ 32) j = BitVec.ofNat 32 (8 * c.val) := by
  after_reads_at
  exact first_head c

/-- A clamped start that is the first head of a device is that head's number. -/
theorem clamp_word (c : Dev nD) (w : BitVec 32) (h : w = BitVec.ofNat 32 (8 * c.val)) :
    (min (max w.toInt 0) ((56 : ℕ) : Int)).toNat = 8 * c.val := by
  subst h
  revert c
  decide

/-- A start along an axis taken whole is zero. -/
theorem clamp_zero (x : Int) : (min (max x 0) ((0 : ℕ) : Int)).toNat = 0 := by omega

/-- The place of head `r % 8` of device `c`, in half `r / 8`, in the whole array of keys or values. -/
def headIx (c : Dev nD) (r : Fin 16) (i : Fin 512) (d : Fin 64) : S2x512x64x64.Idx :=
  ix4 (⟨r.val / 8, by omega⟩ : Fin 2) i (⟨8 * c.val + r.val % 8, by have := c.isLt; have : nD = 8 := rfl; omega⟩ : Fin 64) d

/-- The keys of head `r % 8` of device `c`, in half `r / 8`. -/
theorem keys_apply (c : Dev nD) (r : Fin 16) (i : Fin 512) (d : Fin 64) :
    (V1 m c main_v17 : Vec Ideal S16x512x64 .bf16) (ix3 r i d) = (m (c.tc.loc main_arg2) : Vec Ideal S2x512x64x64 .bf16) (headIx c r i d) := by
  unfold V1
  after_reads_at
  refine congrArg (m (c.tc.loc main_arg2)) ?_
  unfold headIx
  simp only [Host.clampedStart]
  congr 1 <;> apply Fin.ext
  · exact (congrArg (· + r.val / 8) (clamp_zero _)).trans (Nat.zero_add _)
  · exact (congrArg (· + i.val) (clamp_zero _)).trans (Nat.zero_add _)
  · exact congrArg (· + r.val % 8) (clamp_word c _ (start_keys m c _))
  · exact (congrArg (· + d.val) (clamp_zero _)).trans (Nat.zero_add _)

/-- The values of head `r % 8` of device `c`, in half `r / 8`. -/
theorem values_apply (c : Dev nD) (r : Fin 16) (i : Fin 512) (d : Fin 64) :
    (V1 m c main_v19 : Vec Ideal S16x512x64 .bf16) (ix3 r i d) = (m (c.tc.loc main_arg3) : Vec Ideal S2x512x64x64 .bf16) (headIx c r i d) := by
  unfold V1
  after_reads_at
  refine congrArg (m (c.tc.loc main_arg3)) ?_
  unfold headIx
  simp only [Host.clampedStart]
  congr 1 <;> apply Fin.ext
  · exact (congrArg (· + r.val / 8) (clamp_zero _)).trans (Nat.zero_add _)
  · exact (congrArg (· + i.val) (clamp_zero _)).trans (Nat.zero_add _)
  · exact congrArg (· + r.val % 8) (clamp_word c _ (start_values m c _))
  · exact (congrArg (· + d.val) (clamp_zero _)).trans (Nat.zero_add _)

/-- The program's result at an index: the kernel's result at the row of that batch and position. -/
theorem out_apply (c : Dev nD) (b : Fin 2) (i : Fin 512) (d : Fin 768) :
    (V3' m c main_v21 : Vec Ideal S2x512x768 .f32) (ix3 b i d) = (res m : Vec Ideal S1024x768 .f32) (ix2 ⟨512 * b.val + i.val, by omega⟩ d) := by
  unfold V3' V3
  after_reads_at
  rw [show V2 m (outs m) c (Proc.tc.devRef main_v20) = res m from Function.update_self _ _ _]
  refine congrArg (res m) ?_
  congr 1; apply Fin.ext; simp only []; omega

end Cert.KernelIdeal.Talk
-- ==== Proof.Softmax.lean ====
/- The weights of one row of attention, over the extended reals: a masked exponential divided by its sum at the
   end is the masked softmax whose greatest score is taken off first, whatever the values they weigh. -/
module

public import Idealize.ShloMosaic.Lib.Pointwise
public import Idealize.ShloMosaic.Lib.Routing.OpsOrder

@[expose] public section

noncomputable section

namespace Cert.Attn

open Idealize.ShloMosaic

/-- A sum of real numbers, taken in the extended reals, is the real sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor distributes over a sum of extended reals, infinite terms among them. -/
theorem sum_mul_real {ι : Type} (s : Finset ι) (a : ι → EReal) (c : ℝ) (hc : 0 ≤ c) :
    (∑ i ∈ s, a i) * (c : EReal) = ∑ i ∈ s, a i * (c : EReal) := by
  classical
  induction s using Finset.induction_on with
  | empty => simp
  | insert i s hi ih =>
    rw [Finset.sum_insert hi, Finset.sum_insert hi, ← ih, EReal.right_distrib_of_nonneg_of_ne_top (by exact_mod_cast hc) (EReal.coe_ne_top c)]

/-- A quotient of real numbers by a positive one is the real quotient. -/
theorem div_real (a b : ℝ) (hb : 0 < b) : Ideal.div (a : EReal) (b : EReal) = ((a * b⁻¹ : ℝ) : EReal) := by
  unfold Ideal.div
  rw [if_neg (by exact_mod_cast hb.ne'), EReal.coe_mul, EReal.coe_inv]

/-- The greatest of some scores, at least one of them real and the others real or minus infinity, is real. -/
theorem greatest_real {n : ℕ} (f : Fin n → EReal) (hf : ∀ j, f j ≠ ⊤) (j₀ : Fin n) (h₀ : f j₀ ≠ ⊥) :
    ∃ M : ℝ, Finset.univ.fold max ⊥ f = (M : EReal) := by
  have htop : Finset.univ.fold max ⊥ f < ⊤ :=
    (Finset.fold_max_lt _).mpr ⟨bot_lt_top, fun j _ => lt_top_iff_ne_top.mpr (hf j)⟩
  have hbot : ⊥ < Finset.univ.fold max ⊥ f :=
    (Finset.lt_fold_max _).mpr (.inr ⟨j₀, Finset.mem_univ _, bot_lt_iff_ne_bot.mpr h₀⟩)
  exact ⟨_, (EReal.coe_toReal htop.ne hbot.ne').symm⟩

/-- The weight of one position before any division, as a real number: zero where the mask is off. -/
def raw {n : ℕ} (p : Fin n → BitVec 1) (s : Fin n → ℝ) (j : Fin n) : ℝ := if p j = 1#1 then Real.exp (s j) else 0

/-- Unnormalised weights are not negative. -/
theorem raw_nonneg {n : ℕ} (p : Fin n → BitVec 1) (s : Fin n → ℝ) (j : Fin n) : 0 ≤ raw p s j := by
  unfold raw; split
  · exact (Real.exp_pos _).le
  · exact le_refl 0

/-- A row with one kept position has a positive sum. -/
theorem raw_sum_pos {n : ℕ} (p : Fin n → BitVec 1) (s : Fin n → ℝ) (j₀ : Fin n) (h₀ : p j₀ = 1#1) : 0 < ∑ j, raw p s j :=
  Finset.sum_pos' (fun j _ => raw_nonneg p s j) ⟨j₀, Finset.mem_univ _, by unfold raw; rw [if_pos h₀]; exact Real.exp_pos _⟩

/-- A masked exponential is the raw weight. -/
theorem select_exp {n : ℕ} (p : Fin n → BitVec 1) (s : Fin n → ℝ) (j : Fin n) :
    Scalar.select (p j) (Ideal.exp (s j : EReal)) 0 = (raw p s j : EReal) := by
  unfold Scalar.select raw
  split
  · rw [if_pos (by assumption)]; rfl
  · rw [if_neg (by assumption)]; rfl

/-- A masked exponential times a value is the raw weight times the value, the value infinite or not. -/
theorem select_exp_mul {n : ℕ} (p : Fin n → BitVec 1) (s : Fin n → ℝ) (j : Fin n) (v : EReal) :
    Scalar.select (p j) (Ideal.exp (s j : EReal) * v) 0 = (raw p s j : EReal) * v := by
  rw [← select_exp]
  unfold Scalar.select
  split
  · rfl
  · rw [zero_mul]

/-- The exponential of a masked score less a real number is the raw weight scaled. -/
theorem exp_masked {n : ℕ} (p : Fin n → BitVec 1) (s : Fin n → ℝ) (M : ℝ) (j : Fin n) :
    Ideal.exp (Scalar.select (p j) (s j : EReal) ⊥ - (M : EReal)) = ((raw p s j * Real.exp (-M) : ℝ) : EReal) := by
  unfold Scalar.select raw
  split
  · rw [if_pos (by assumption), ← Real.exp_add, ← sub_eq_add_neg, ← EReal.coe_sub]; rfl
  · rw [if_neg (by assumption), zero_mul, EReal.bot_sub]; rfl

/-- **One row of attention.** Left, the weighted values summed first and divided by the sum of the weights once;
    right, each weight divided by the sum, the greatest score taken off every score before the exponential. -/
theorem row {n : ℕ} (p : Fin n → BitVec 1) (s : Fin n → ℝ) (v : Fin n → EReal) (j₀ : Fin n) (h₀ : p j₀ = 1#1) :
    (∑ j, Scalar.select (p j) (Ideal.exp (s j : EReal) * v j) 0) * Ideal.div 1 (∑ j, Scalar.select (p j) (Ideal.exp (s j : EReal)) 0)
      = ∑ j, v j * Ideal.div (Ideal.exp (Scalar.select (p j) (s j : EReal) ⊥ - Finset.univ.fold max ⊥ fun k => Scalar.select (p k) (s k : EReal) ⊥))
          (∑ i, Ideal.exp (Scalar.select (p i) (s i : EReal) ⊥ - Finset.univ.fold max ⊥ fun k => Scalar.select (p k) (s k : EReal) ⊥)) := by
  obtain ⟨M, hM⟩ := greatest_real (fun k => Scalar.select (p k) (s k : EReal) ⊥)
    (fun k => by unfold Scalar.select; split <;> simp) j₀ (by unfold Scalar.select; rw [if_pos (show p j₀ = 1 from h₀)]; exact EReal.coe_ne_bot _)
  have hE := raw_sum_pos p s j₀ h₀
  have hm := Real.exp_pos (-M)
  simp only [hM, exp_masked, select_exp, select_exp_mul, sum_real]
  rw [← Finset.sum_mul]
  have h1 : Ideal.div 1 ((∑ j, raw p s j : ℝ) : EReal) = (((∑ j, raw p s j)⁻¹ : ℝ) : EReal) := by
    rw [← EReal.coe_one, div_real 1 _ hE, one_mul]
  rw [h1, sum_mul_real _ _ _ (inv_nonneg.mpr hE.le)]
  refine Finset.sum_congr rfl fun j _ => ?_
  rw [div_real _ _ (mul_pos hE hm), mul_comm (raw p s j : EReal), mul_assoc, ← EReal.coe_mul]
  congr 2
  field_simp

/-- A row with an unmasked position is kept. -/
theorem kept {n : ℕ} (p : Fin n → BitVec 1) (j₀ : Fin n) (h₀ : p j₀ = 1#1) : Finset.fold IntOp.ori (0#1) p Finset.univ = 1#1 :=
  (Routing.fold_ori _ _).mpr ⟨j₀, Finset.mem_univ _, h₀⟩

/-- A finite extended real is a real number. -/
theorem real_of_finite {x : EReal} (h : max x (-x) < ⊤) : ∃ r : ℝ, x = (r : EReal) := by
  induction x using EReal.rec with
  | bot => simp at h
  | top => simp at h
  | coe r => exact ⟨r, rfl⟩

/-- An array of finite entries is an array of real numbers. -/
theorem reals_of_finite {ι : Type} {x : ι → EReal} (h : ∀ i, max (x i) (-(x i)) < ⊤) : ∃ r : ι → ℝ, x = fun i => (r i : EReal) :=
  ⟨fun i => (real_of_finite (h i)).choose, funext fun i => (real_of_finite (h i)).choose_spec⟩

/-- The factor on the scores, `0.125`. -/
theorem scale_real : Ideal.ofBits .f32 0x3E000000#32 = ((0.125 : ℝ) : EReal) := by
  simp [Ideal.ofBits, Ideal.ieee]
  norm_num
  exact (EReal.coe_mul _ _).symm.trans (congrArg _ (by norm_num))

/-- This word is minus infinity. -/
theorem minus_infinity : Ideal.ofBits .f32 0xFF800000#32 = ⊥ := by
  simp [Ideal.ofBits, Ideal.ieee]

/-- This word is infinity. -/
theorem plus_infinity : Ideal.ofBits .f32 0x7F800000#32 = ⊤ := by
  simp [Ideal.ofBits, Ideal.ieee]

/-! ## The mask -/

/-- Whether position `i` attends to position `j`: near it, or either of them among the first. -/
def mask (i j : Fin 512) : BitVec 1 :=
  IntOp.ori (IntOp.cmpi CmpIPredicate.sle (IntOp.absi (IntOp.subi (BitVec.ofNat 32 ↑i) (BitVec.ofNat 32 ↑j))) 128#32)
    (IntOp.ori (IntOp.cmpi CmpIPredicate.slt (BitVec.ofNat 32 ↑j) 32#32) (IntOp.cmpi CmpIPredicate.slt (BitVec.ofNat 32 ↑i) 32#32))

/-- One or anything is one. -/
theorem one_ori (b : BitVec 1) : IntOp.ori 1#1 b = 1#1 := by revert b; decide

/-- Every position attends to itself. -/
theorem mask_diag (i : Fin 512) : mask i i = 1#1 := by
  unfold mask
  rw [show IntOp.subi (BitVec.ofNat 32 i.val) (BitVec.ofNat 32 i.val) = 0#32 from BitVec.sub_self _]
  rw [show IntOp.cmpi CmpIPredicate.sle (IntOp.absi 0#32) 128#32 = 1#1 by decide, one_ori]

/-- Or is associative. -/
theorem ori_assoc (a b c : BitVec 1) : IntOp.ori (IntOp.ori a b) c = IntOp.ori a (IntOp.ori b c) := by
  revert a b c; decide

/-- The scores the kernel takes, the factor inside the sum, are the reference's, the factor outside. -/
theorem score {D E : ℕ} (x : Fin D → ℝ) (w : Fin D → Fin E → ℝ) (k : Fin E → ℝ) :
    (∑ e, (∑ d, (x d : EReal) * (w d e : EReal)) * ((0.125 : ℝ) : EReal) * (k e : EReal))
        = (((∑ e, (∑ d, x d * w d e) * k e) * 0.125 : ℝ) : EReal)
      ∧ (∑ e, (∑ d, (x d : EReal) * (w d e : EReal)) * (k e : EReal)) * ((0.125 : ℝ) : EReal)
        = (((∑ e, (∑ d, x d * w d e) * k e) * 0.125 : ℝ) : EReal) := by
  simp only [← EReal.coe_mul, sum_real]
  refine ⟨?_, trivial⟩
  rw [Finset.sum_mul]
  exact congrArg _ (Finset.sum_congr rfl fun e _ => by ring)

/-! ## One entry of the context -/

section Context

variable (x : Fin 768 → EReal) (w : Fin 768 → Fin 64 → EReal) (k : Fin 512 → Fin 64 → EReal) (v : Fin 512 → EReal) (i : Fin 512)

/-- The kernel's score of position `j`: the factor on the query, inside the sum. -/
def scoreK (j : Fin 512) : EReal := ∑ e, (∑ d, x d * w d e) * Ideal.ofBits .f32 0x3E000000#32 * k j e

/-- The kernel's entry of the context: row `i`'s query from `x` and the head's columns `w`, the head's keys `k`, one
    column `v` of its values. -/
def ctxK : EReal :=
  (∑ j, Scalar.select (mask i j) (Ideal.exp (scoreK x w k j) * v j) 0)
    * Ideal.div 1 (∑ j, Scalar.select (mask i j) (Ideal.exp (scoreK x w k j)) 0)

/-- The reference's masked score of position `j`: the factor on the score, minus infinity where the mask is off. -/
def scoreR (j : Fin 512) : EReal :=
  Scalar.select (mask i j) ((∑ e, (∑ d, x d * w d e) * k j e) * Ideal.ofBits .f32 0x3E000000#32) (Ideal.ofBits .f32 0xFF800000#32)

/-- The reference's weight of position `j` before the division: the greatest score is taken off. -/
def weightR (j : Fin 512) : EReal :=
  Ideal.exp (scoreR x w k i j - Finset.fold max (Ideal.ofBits .f32 0xFF800000#32) (fun n => scoreR x w k i n) Finset.univ)

/-- Whether any position of the row is unmasked. -/
def keep : BitVec 1 := Finset.fold IntOp.ori (0#1) (fun j => mask i j) Finset.univ

/-- The reference's entry of the context. -/
def ctxR : EReal :=
  ∑ j, v j * Scalar.select (keep i) (Ideal.div (weightR x w k i j) (Scalar.select (keep i) (∑ n, weightR x w k i n) 1)) 0

/-- **The kernel's entry of the context is the reference's**, where the input, the query weights and the keys are
    finite; the values may be infinite. -/
theorem ctx_eq (hx : ∀ d, max (x d) (-(x d)) < ⊤) (hw : ∀ d e, max (w d e) (-(w d e)) < ⊤) (hk : ∀ j e, max (k j e) (-(k j e)) < ⊤) :
    ctxK x w k v i = ctxR x w k v i := by
  obtain ⟨x, rfl⟩ := reals_of_finite hx
  obtain ⟨w', hw'⟩ := reals_of_finite (x := fun t : Fin 768 × Fin 64 => w t.1 t.2) fun t => hw t.1 t.2
  obtain ⟨k', hk'⟩ := reals_of_finite (x := fun t : Fin 512 × Fin 64 => k t.1 t.2) fun t => hk t.1 t.2
  obtain rfl : w = fun d e => (w' (d, e) : EReal) := funext fun d => funext fun e => congrFun hw' (d, e)
  obtain rfl : k = fun j e => (k' (j, e) : EReal) := funext fun j => funext fun e => congrFun hk' (j, e)
  have hkeep : keep i = 1#1 := kept _ i (mask_diag i)
  have h1 : ∀ a b : EReal, Scalar.select 1#1 a b = a := fun a b => if_pos rfl
  have hS := fun j => score x (fun d e => w' (d, e)) (fun e => k' (j, e))
  unfold ctxK ctxR weightR scoreK scoreR
  rw [hkeep]
  simp only [h1, minus_infinity, scale_real, (hS _).1, (hS _).2]
  exact row (mask i) _ v i (mask_diag i)

end Context

/-- A sum over the columns of all devices, device by device. -/
theorem sum_devices (f : Fin 4096 → EReal) : ∑ t, f t = ∑ p : Fin 8, ∑ t : Fin 512, f ⟨512 * p.val + t.val, by omega⟩ := by
  rw [← Fintype.sum_prod_type', ← (finProdFinEquiv (m := 8) (n := 512)).sum_comp f]
  exact Finset.sum_congr rfl fun t _ => congrArg f (Fin.ext (Nat.add_comm _ _))

end Cert.Attn

end
-- ==== Proof.KernelValue.lean ====
/- What the kernel's pure expressions read at an index, over the extended reals. -/
module

public import proofs.«01_k».proof.Proof.Region
public import proofs.«01_k».proof.Proof.Softmax
public import Idealize.ShloMosaic.Lib.Pointwise

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

set_option maxRecDepth 16384

/-- The query at a row and a column: the scaled product of the input and the query weights. -/
theorem query_apply (X : Vec Ideal S1024x768 .bf16) (Wq : Vec Ideal S768x512 .bf16) (r : Fin 1024) (l : Fin 512) :
    k0_pay1 (F := Ideal) X Wq (ix2 r l) = (∑ d : Fin 768, X (ix2 r d) * Wq (ix2 d l)) * Ideal.ofBits .f32 0x3E000000#32 := by
  pointwise [k0_pay1]

/-- The kernel's mask. -/
theorem mask_apply (i j : Fin 512) : k0_pay2 (ix2 i j) = Attn.mask i j := by
  pointwise [k0_pay2]
  exact Attn.ori_assoc _ _ _

/-- The eight chunks that reach one device, added. -/
theorem redOf_apply (X : Fin 8 → Vec Ideal S64x768 .bf16) (i : Fin 64) (o : Fin 768) : redOf X (ix2 i o) = ∑ p : Fin 8, X p (ix2 i o) := by
  pointwise [redOf, slotUp, k0_pay45, k0_pay46, k0_pay47, k0_pay48, k0_pay49]
  rw [Fin.sum_univ_eight]

/-- A gathered block is stored as it is. -/
theorem outVal_apply (X : Vec Ideal S64x768 .bf16) (i : Fin 64) (o : Fin 768) : outVal X (ix2 i o) = X (ix2 i o) := by
  pointwise [outVal, slotUp, k0_pay56]

/-- The product of the context and the output weights. -/
theorem product_apply (C : Vec Ideal S512x512 .bf16) (W : Vec Ideal S512x768 .bf16) (i : Fin 512) (o : Fin 768) :
    k0_pay22 (F := Ideal) C W (ix2 i o) = ∑ t : Fin 512, C (ix2 i t) * W (ix2 t o) := by
  pointwise [k0_pay22]

/-- A place in a head's keys or values is the same place in the head's plane. -/
theorem headRect_emb (b : Fin 2) (h : Fin 8) (j : Fin 512) (l : Fin 64) :
    (headRect b h).emb (ix3 (0 : Fin 1) j l) = ix3 (⟨8 * b.val + h.val, by omega⟩ : Fin 16) j l := by
  funext a; apply Fin.ext
  rw [ValueKit.rect_emb_unit_val]
  revert a
  exact Fin.forall_fin_succ.mpr ⟨rfl, Fin.forall_fin_two.mpr ⟨Nat.zero_add _, Nat.zero_add _⟩⟩

/-- One head's context at a row and a column. -/
theorem head_apply (b : Fin 2) (h : Fin 8) (X : Vec Ideal S1024x768 .bf16) (Wq : Vec Ideal S768x512 .bf16) (K V : Vec Ideal S16x512x64 .bf16)
    (i : Fin 512) (l : Fin 64) :
    headVal b h (k0_pay1 X Wq) K V (ix2 i l)
      = Attn.ctxK (fun d => X (ix2 (⟨512 * b.val + i.val, by omega⟩ : Fin 1024) d)) (fun d e => Wq (ix2 d (⟨64 * h.val + e.val, by omega⟩ : Fin 512)))
          (fun j e => K (ix3 (⟨8 * b.val + h.val, by omega⟩ : Fin 16) j e)) (fun j => V (ix3 (⟨8 * b.val + h.val, by omega⟩ : Fin 16) j l)) i := by
  pointwise [headVal, k0_pay5, k0_pay4, headOf]
  simp only [query_apply, mask_apply, headRect_emb]
  rfl

/-- The context of one half at a row and a column: the column's head, at its place in the head. -/
theorem ctxOf_apply (X : Fin 8 → Vec Ideal S512x64 .bf16) (i t : Fin 512) :
    ctxOf X (ix2 i t) = X ⟨t.val / 64, by omega⟩ (ix2 i (⟨t.val % 64, by omega⟩ : Fin 64)) := by
  rw [← ctxOf_emb X]
  refine congrArg (ctxOf X) ?_
  funext a; apply Fin.ext
  rw [ValueKit.rect_emb_unit_val]
  revert a
  exact Fin.forall_fin_two.mpr ⟨(Nat.zero_add _).symm, (Nat.div_add_mod t.val 64).symm⟩

/-- One device's partial product of one half, at an index. -/
theorem partOf_apply (b : Fin 2) (X : Vec Ideal S1024x768 .bf16) (Wq : Vec Ideal S768x512 .bf16) (K V : Vec Ideal S16x512x64 .bf16)
    (Wo : Vec Ideal S512x768 .bf16) (i : Fin 512) (o : Fin 768) :
    partOf b X Wq K V Wo (ix2 i o)
      = ∑ t : Fin 512, Attn.ctxK (fun d => X (ix2 (⟨512 * b.val + i.val, by omega⟩ : Fin 1024) d))
          (fun d e => Wq (ix2 d (⟨64 * (t.val / 64) + e.val, by omega⟩ : Fin 512)))
          (fun j e => K (ix3 (⟨8 * b.val + t.val / 64, by omega⟩ : Fin 16) j e))
          (fun j => V (ix3 (⟨8 * b.val + t.val / 64, by omega⟩ : Fin 16) j (⟨t.val % 64, by omega⟩ : Fin 64))) i * Wo (ix2 t o) := by
  unfold partOf
  rw [product_apply]
  refine Finset.sum_congr rfl fun t _ => ?_
  rw [ctxOf_apply, head_apply]

/-- The whole result at an index: the devices' partial products of that entry, added. -/
theorem out_sum (P : Dev nD → Fin 2 → Vec Ideal S512x768 .bf16) (b : Fin 2) (i : Fin 512) (o : Fin 768) :
    outOf (fun t => outVal (red P t.2 t.1)) (ix2 (⟨512 * b.val + i.val, by omega⟩ : Fin 1024) o) = ∑ p : Fin 8, P p b (ix2 i o) := by
  have h : (ix2 (⟨512 * b.val + i.val, by omega⟩ : Fin 1024) o : S1024x768.Idx)
      = (chunkRects (b, (⟨i.val / 64, by omega⟩ : Fin 8))).emb (ix2 (⟨i.val % 64, by omega⟩ : Fin 64) o) := by
    funext a; apply Fin.ext
    rw [ValueKit.rect_emb_unit_val]
    revert a
    exact Fin.forall_fin_two.mpr ⟨by show 512 * b.val + i.val = 512 * b.val + 64 * (i.val / 64) + i.val % 64; omega, (Nat.zero_add _).symm⟩
  rw [h, outOf_emb, outVal_apply]
  unfold red
  rw [redOf_apply]
  refine Finset.sum_congr rfl fun p _ => congrArg (P p b) ?_
  funext a; apply Fin.ext
  rw [ValueKit.rect_emb_unit_val]
  revert a
  exact Fin.forall_fin_two.mpr ⟨Nat.div_add_mod i.val 64, Nat.zero_add _⟩

end Cert.KernelIdeal.Talk
-- ==== Proof.RefValue.lean ====
/- What the reference's result reads at an index, over the extended reals. -/
module

public import proofs.«01_k».proof.Proof.Gen.ReferenceIdeal.Run
public import proofs.«01_k».proof.Proof.Softmax
public import Idealize.ShloMosaic.Lib.Pointwise
public import Idealize.ShloMosaic.Lib.Tactic.CleanTypes
public import Idealize.ShloMosaic.Lib.Routing.OpsOrder

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

set_option maxRecDepth 16384

set_option maxHeartbeats 4000000 in
/-- The reference's result at an index: the context's entries of the row, weighed by one column of the output weights. -/
theorem res_apply (m : (ℓ : Loc nD τ sig) → Buf (Elt Ideal) ℓ) (c : Dev nD) (b : Fin 2) (i : Fin 512) (o : Fin 768) :
    (res_out0 m c : Vec Ideal S2x512x768 .f32) (ix3 b i o)
      = ∑ t : Fin 4096, Attn.ctxR (fun d => (m (c.tc.loc main_arg0) : Vec Ideal S2x512x768 .bf16) (ix3 b i d))
          (fun d e => (m (c.tc.loc main_arg1) : Vec Ideal S768x4096 .bf16) (ix2 d ⟨t.val / 64 * 64 + e.val, by omega⟩))
          (fun j e => (m (c.tc.loc main_arg2) : Vec Ideal S2x512x64x64 .bf16) (ix4 b j ⟨t.val / 64, by omega⟩ e))
          (fun j => (m (c.tc.loc main_arg3) : Vec Ideal S2x512x64x64 .bf16) (ix4 b j ⟨t.val / 64, by omega⟩ ⟨t.val % 64, by omega⟩)) i
        * (m (c.tc.loc main_arg4) : Vec Ideal S4096x768 .bf16) (ix2 t o) := by
  unfold res_out0 res_main_v47
  clean_types
  pointwise
  simp only [id, constant, show ∀ w, (FloatOps.ofBits .f32 w : Ideal .f32) = Ideal.ofBits .f32 w from fun _ => rfl, Ideal.ofBits_one_f32, Ideal.ofBits_zero_f32]
  unfold Attn.ctxR Attn.weightR Attn.keep Attn.scoreR Attn.mask
  rfl

end Cert.ReferenceIdeal.Value

end
-- ==== Proof.Finite.lean ====
/- The precondition, entry by entry: the input, the query weights and the keys are finite. -/
module

public import proofs.«01_k».proof.Pre_finite_KernelIdeal
public import proofs.«01_k».proof.Pre_finite_ReferenceIdeal
public import proofs.«01_k».proof.Proof.Softmax
public import Idealize.ShloMosaic.Lib.Decide
public import Idealize.ShloMosaic.Lib.ReduceAll

@[expose] public section

open Idealize.ShloMosaic

/-- The side conditions of the precondition on the kernel's arguments. -/
instance Cert.Pre_finite_KernelIdeal.Talk.facts : Cert.Pre_finite_KernelIdeal.Facts where
  bitsLt_bf16_f32 := by decide
  bcast_S_S2x512x768 := by decide
  reducesTo_S2x512x768_S_d0_1_2 := by decide
  h_S_ := by decide
  bcast_S_S768x512 := by decide
  reducesTo_S768x512_S_d0_1 := by decide
  bcast_S_S2x512x64x64 := by decide
  reducesTo_S2x512x64x64_S_d0_1_2_3 := by decide

/-- The side conditions of the precondition on the reference's arguments. -/
instance Cert.Pre_finite_ReferenceIdeal.Talk.facts : Cert.Pre_finite_ReferenceIdeal.Facts where
  bitsLt_bf16_f32 := by decide
  bcast_S_S2x512x768 := by decide
  reducesTo_S2x512x768_S_d0_1_2 := by decide
  h_S_ := by decide
  bcast_S_S768x4096 := by decide
  reducesTo_S768x4096_S_d0_1 := by decide
  bcast_S_S2x512x64x64 := by decide
  reducesTo_S2x512x64x64_S_d0_1_2_3 := by decide

noncomputable section

namespace Cert.Pre_finite_KernelIdeal.Talk

set_option maxRecDepth 16384

/-- A scalar has one index. -/
theorem one_index : ∀ i j : S_.Idx, i = j := fun i j => funext fun a => a.elim0

instance : Subsingleton S_.Idx := ⟨one_index⟩

/-- One entry passes the comparison with infinity exactly when it is finite. -/
theorem finite_of_bit {x : EReal} (h : BitVec.ofBool (decide (max x (-x) < Ideal.ofBits .f32 0x7F800000#32)) = 1#1) : max x (-x) < ⊤ := by
  rw [Attn.plus_infinity] at h
  by_contra hx
  rw [decide_eq_false hx] at h
  exact absurd h (by decide)

/-- Under the precondition every entry of the input, the query weights and the keys is finite. -/
theorem entries (x : FVec Ideal S2x512x768 .bf16) (w : FVec Ideal S768x512 .bf16) (k v : FVec Ideal S2x512x64x64 .bf16) (o : FVec Ideal S512x768 .bf16)
    (h : fn (F := Ideal) x w k v o = fun _ => 1#1) :
    (∀ i, max (x i) (-(x i)) < ⊤) ∧ (∀ i, max (w i) (-(w i)) < ⊤) ∧ (∀ i, max (k i) (-(k i)) < ⊤) := by
  have h := congrFun h ix0
  obtain ⟨h12, h3⟩ := IntOp.andi_eq_one.mp h
  obtain ⟨h1, h2⟩ := IntOp.andi_eq_one.mp h12
  exact ⟨fun i => finite_of_bit (Host.reduce_andi_all _ _ _ _ _ h1 i), fun i => finite_of_bit (Host.reduce_andi_all _ _ _ _ _ h2 i),
    fun i => finite_of_bit (Host.reduce_andi_all _ _ _ _ _ h3 i)⟩

end Cert.Pre_finite_KernelIdeal.Talk

end
-- ==== Proof.Equation.lean ====
/- The kernel's result is the reference's, entry by entry. -/
module

public import proofs.«01_k».proof.Proof.HostValue
public import proofs.«01_k».proof.Proof.KernelValue
public import proofs.«01_k».proof.Proof.RefValue
public import proofs.«01_k».proof.Proof.Finite
public import Idealize.ShloMosaic.Lib.Layout

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

set_option maxRecDepth 16384

/-- The place of a head in the whole array, by its number in the reference's order. -/
theorem headIx_eq (p : Fin 8) (b : Fin 2) (t : Fin 512) (j : Fin 512) (e : Fin 64) :
    headIx p (⟨8 * b.val + t.val / 64, by omega⟩ : Fin 16) j e = ix4 b j (⟨(512 * p.val + t.val) / 64, by omega⟩ : Fin 64) e := by
  unfold headIx
  congr 1 <;> apply Fin.ext
  · show (8 * b.val + t.val / 64) / 8 = b.val
    omega
  · show 8 * p.val + (8 * b.val + t.val / 64) % 8 = (512 * p.val + t.val) / 64
    omega

/-- A column of a device's block of the query weights is a column of the whole. -/
theorem query_block (W : Vec Ideal ReferenceIdeal.S768x4096 .bf16) (p : Fin 8) (h : Layout.Tiles ⟨2, ![768, 512]⟩ ⟨2, ![768, 4096]⟩ 1 8)
    (d : Fin 768) (l : Fin 512) (n : Fin 4096) (hn : n.val = 512 * p.val + l.val) :
    Layout.block ⟨2, ![768, 512]⟩ ⟨2, ![768, 4096]⟩ 1 8 p W h (ix2 d l) = W (ix2 d n) := by
  rw [Layout.block_apply]
  refine congrArg W (funext fun a => Fin.ext ?_)
  revert a
  refine Fin.forall_fin_two.mpr ⟨?_, ?_⟩
  · exact (Layout.idx_cols_val h p (ix2 d l)).1
  · exact (Layout.idx_cols_val h p (ix2 d l)).2.trans (by show p.val * 512 + l.val = n.val; omega)

/-- A row of a device's block of the output weights is a row of the whole. -/
theorem output_block (W : Vec Ideal ReferenceIdeal.S4096x768 .bf16) (p : Fin 8) (h : Layout.Tiles ⟨2, ![512, 768]⟩ ⟨2, ![4096, 768]⟩ 0 8)
    (l : Fin 512) (o : Fin 768) (n : Fin 4096) (hn : n.val = 512 * p.val + l.val) :
    Layout.block ⟨2, ![512, 768]⟩ ⟨2, ![4096, 768]⟩ 0 8 p W h (ix2 l o) = W (ix2 n o) := by
  rw [Layout.block_apply]
  refine congrArg W (funext fun a => Fin.ext ?_)
  revert a
  refine Fin.forall_fin_two.mpr ⟨?_, ?_⟩
  · exact (Layout.idx_rows_val h p (ix2 l o)).1.trans (by show p.val * 512 + l.val = n.val; omega)
  · exact (Layout.idx_rows_val h p (ix2 l o)).2

/-- One device's part of the result is that device's share of the reference's sum over the attended columns: the operands
    of the part are read from the whole arrays, and the two ways of the softmax agree where the scores are finite. -/
theorem part_eq (p : Fin 8) (b : Fin 2) (i : Fin 512) (o : Fin 768)
    (X' : Vec Ideal S1024x768 .bf16) (Wq' : Vec Ideal S768x512 .bf16) (K' V' : Vec Ideal S16x512x64 .bf16) (Wo' : Vec Ideal S512x768 .bf16)
    (X : Vec Ideal S2x512x768 .bf16) (Wq : Vec Ideal ReferenceIdeal.S768x4096 .bf16) (K V : Vec Ideal S2x512x64x64 .bf16)
    (Wo : Vec Ideal ReferenceIdeal.S4096x768 .bf16)
    (hx : ∀ d, X' (ix2 (⟨512 * b.val + i.val, by omega⟩ : Fin 1024) d) = X (ix3 b i d))
    (hw : ∀ (d : Fin 768) (l : Fin 512), Wq' (ix2 d l) = Wq (ix2 d (⟨512 * p.val + l.val, by omega⟩ : Fin 4096)))
    (hk : ∀ (r : Fin 16) (j : Fin 512) (e : Fin 64), K' (ix3 r j e) = K (headIx p r j e))
    (hv : ∀ (r : Fin 16) (j : Fin 512) (e : Fin 64), V' (ix3 r j e) = V (headIx p r j e))
    (ho : ∀ (l : Fin 512), Wo' (ix2 l o) = Wo (ix2 (⟨512 * p.val + l.val, by omega⟩ : Fin 4096) o))
    (fx : ∀ j, max (X j) (-(X j)) < ⊤) (fw : ∀ j, max (Wq' j) (-(Wq' j)) < ⊤) (fk : ∀ j, max (K j) (-(K j)) < ⊤) :
    partOf b X' Wq' K' V' Wo' (ix2 i o)
      = ∑ t : Fin 512, Attn.ctxR (fun d => X (ix3 b i d))
          (fun d e => Wq (ix2 d (⟨(512 * p.val + t.val) / 64 * 64 + e.val, by omega⟩ : Fin 4096)))
          (fun j e => K (ix4 b j (⟨(512 * p.val + t.val) / 64, by omega⟩ : Fin 64) e))
          (fun j => V (ix4 b j (⟨(512 * p.val + t.val) / 64, by omega⟩ : Fin 64) (⟨(512 * p.val + t.val) % 64, by omega⟩ : Fin 64))) i
        * Wo (ix2 (⟨512 * p.val + t.val, by omega⟩ : Fin 4096) o) := by
  rw [partOf_apply]
  refine Finset.sum_congr rfl fun t _ => ?_
  have e1 : (fun d => X' (ix2 (⟨512 * b.val + i.val, by omega⟩ : Fin 1024) d)) = fun d => X (ix3 b i d) := funext hx
  have e2 : (fun (d : Fin 768) (e : Fin 64) => Wq' (ix2 d (⟨64 * (t.val / 64) + e.val, by omega⟩ : Fin 512)))
      = fun d e => Wq (ix2 d (⟨(512 * p.val + t.val) / 64 * 64 + e.val, by omega⟩ : Fin 4096)) :=
    funext fun d => funext fun e => (hw d _).trans (congrArg (fun n => Wq (ix2 d n)) (Fin.ext (by simp only []; omega)))
  have e3 : (fun (j : Fin 512) (e : Fin 64) => K' (ix3 (⟨8 * b.val + t.val / 64, by omega⟩ : Fin 16) j e))
      = fun j e => K (ix4 b j (⟨(512 * p.val + t.val) / 64, by omega⟩ : Fin 64) e) :=
    funext fun j => funext fun e => (hk _ j e).trans (congrArg K (headIx_eq p b t j e))
  have e4 : (fun j : Fin 512 => V' (ix3 (⟨8 * b.val + t.val / 64, by omega⟩ : Fin 16) j (⟨t.val % 64, by omega⟩ : Fin 64)))
      = fun j => V (ix4 b j (⟨(512 * p.val + t.val) / 64, by omega⟩ : Fin 64) (⟨(512 * p.val + t.val) % 64, by omega⟩ : Fin 64)) :=
    funext fun j => (hv _ j _).trans ((congrArg V (headIx_eq p b t j _)).trans
      (congrArg (fun n => V (ix4 b j (⟨(512 * p.val + t.val) / 64, by omega⟩ : Fin 64) n)) (Fin.ext (by simp only []; omega))))
  have f2 : ∀ (d : Fin 768) (e : Fin 64), max (Wq (ix2 d (⟨(512 * p.val + t.val) / 64 * 64 + e.val, by omega⟩ : Fin 4096)))
      (-(Wq (ix2 d (⟨(512 * p.val + t.val) / 64 * 64 + e.val, by omega⟩ : Fin 4096)))) < ⊤ := fun d e => by
    have h := congrFun (congrFun e2 d) e
    exact h ▸ fw _
  rw [e1, e2, e3, e4, ho t, Attn.ctx_eq _ _ _ _ _ (fun d => fx _) f2 (fun j e => fk _)]

variable (m : (ℓ : Loc nD τ sig) → Buf (Elt Ideal) ℓ)

/-- **The kernel's result on every device is the reference's result**, where the input, the query weights and the keys
    are finite and every device holds its blocks of the reference's arguments. -/
theorem result_eq (m' : (ℓ : Loc ReferenceIdeal.nD ReferenceIdeal.τ ReferenceIdeal.sig) → Buf (Elt Ideal) ℓ)
    (X : Vec Ideal S2x512x768 .bf16) (Wq : Vec Ideal ReferenceIdeal.S768x4096 .bf16) (K V : Vec Ideal S2x512x64x64 .bf16)
    (Wo : Vec Ideal ReferenceIdeal.S4096x768 .bf16)
    (W1 : Dev nD → Vec Ideal S768x512 .bf16)
    (g0 : ∀ p : Dev nD, m (p.tc.loc main_arg0) = X) (g1 : ∀ p : Dev nD, m (p.tc.loc main_arg1) = W1 p)
    (h1 : ∀ p : Dev nD, W1 p = Layout.block ⟨2, ![768, 512]⟩ ⟨2, ![768, 4096]⟩ 1 8 p Wq)
    (g2 : ∀ p : Dev nD, m (p.tc.loc main_arg2) = K) (g3 : ∀ p : Dev nD, m (p.tc.loc main_arg3) = V)
    (g4 : ∀ p : Dev nD, m (p.tc.loc main_arg4) = Layout.block ⟨2, ![512, 768]⟩ ⟨2, ![4096, 768]⟩ 0 8 p Wo)
    (r0 : m' ((0 : Dev ReferenceIdeal.nD).tc.loc ReferenceIdeal.main_arg0) = X) (r1 : m' ((0 : Dev ReferenceIdeal.nD).tc.loc ReferenceIdeal.main_arg1) = Wq)
    (r2 : m' ((0 : Dev ReferenceIdeal.nD).tc.loc ReferenceIdeal.main_arg2) = K) (r3 : m' ((0 : Dev ReferenceIdeal.nD).tc.loc ReferenceIdeal.main_arg3) = V)
    (r4 : m' ((0 : Dev ReferenceIdeal.nD).tc.loc ReferenceIdeal.main_arg4) = Wo)
    (fx : ∀ i, max (X i) (-(X i)) < ⊤) (fw : ∀ (p : Dev nD) i, max (W1 p i) (-(W1 p i)) < ⊤)
    (fk : ∀ i, max (K i) (-(K i)) < ⊤) (c : Dev nD) :
    (V3' m c main_v21 : Vec Ideal S2x512x768 .f32) = (ReferenceIdeal.Value.res_out0 m' 0 : Vec Ideal S2x512x768 .f32) := by
  funext j
  obtain ⟨b, i, o, rfl⟩ : ∃ (b : Fin 2) (i : Fin 512) (o : Fin 768), j = ix3 b i o := ⟨j 0, j 1, j 2, eq_ix3 j⟩
  refine (out_apply m c b i o).trans ?_
  refine Eq.trans ?_ (ReferenceIdeal.Value.res_apply m' 0 b i o).symm
  rw [r0, r1, r2, r3, r4, Attn.sum_devices]
  unfold res
  refine (out_sum (parts m) b i o).trans (Finset.sum_congr rfl fun p _ => ?_)
  unfold parts
  refine part_eq p b i o _ _ _ _ _ X Wq K V Wo ?_ ?_ ?_ ?_ ?_ fx ?_ fk
  · exact fun d => (rows_apply m p b i d _ rfl).trans (congrFun (g0 p) _)
  · exact fun d l => (congrFun ((V1_of m p main_arg1 (by decide)).trans ((g1 p).trans (h1 p))) _).trans (query_block Wq p _ d l _ rfl)
  · exact fun r j e => (keys_apply m p r j e).trans (congrFun (g2 p) _)
  · exact fun r j e => (values_apply m p r j e).trans (congrFun (g3 p) _)
  · exact fun l => (congrFun ((V1_of m p main_arg4 (by decide)).trans (g4 p)) _).trans (output_block Wo p _ l o _ rfl)
  · rw [(V1_of m p main_arg1 (by decide)).trans (g1 p)]
    exact fw p

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel over bit patterns runs, leaves its arguments and ends with every counter at zero: the run over any float values, at `Bits`. -/
theorem frame_kernel : Cert.quiescent_Kernel := fun m ρ _ =>
  Cert.Same.run ((θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Talk.run_main (F := Bits) m ρ))

/-- The same over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Talk.run_main (F := Ideal) m ρ)

/-- The reference runs and leaves its arguments; it has no counters. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- The idealized kernel computes the reference: every device ends with the reference's result, where the input, the
    query weights and the keys are finite. -/
theorem algebraic : Cert.algebraic_KernelIdeal_ReferenceIdeal_pre_finite_KernelIdeal := by
  intro m g m' g' hpre hargs
  refine ⟨Cert.ReferenceIdeal.Value.res_out0 m' 0, ?_, ?_⟩
  · refine (θ_run Cert.KernelIdeal.defs _ _).mono (fun r h c => ?_) (Cert.KernelIdeal.Talk.run_main (F := Ideal) m g)
    refine ⟨(h.1 c).2.2.2.2.2.trans ?_, (h.1 c).1, (h.1 c).2.1, (h.1 c).2.2.1, (h.1 c).2.2.2.1, (h.1 c).2.2.2.2.1⟩
    have fin := fun p => Cert.Pre_finite_KernelIdeal.Talk.entries _ _ _ _ _ (hpre p)
    exact Cert.KernelIdeal.Talk.result_eq m m' _ _ _ _ _ _ (fun p => (hargs p).1) (fun p => rfl) (fun p => (hargs p).2.1)
      (fun p => (hargs p).2.2.1) (fun p => (hargs p).2.2.2.1) (fun p => (hargs p).2.2.2.2) rfl rfl rfl rfl rfl
      ((hargs 0).1 ▸ (fin 0).1) (fun p => (fin p).2.1) ((hargs 0).2.2.1 ▸ (fin 0).2.2) c
  · exact (θ_run Cert.ReferenceIdeal.defs _ _).mono (fun r h => h 0) (Cert.ReferenceIdeal.Value.run (F := Ideal) m' g')

/-- Everything the certificate claims. -/
theorem claim : Cert.Claim := ⟨Cert.Kernel.Gen.facts, Cert.KernelIdeal.Gen.facts, Cert.ReferenceIdeal.Gen.facts,
  Cert.Pre_finite_KernelIdeal.Talk.facts, Cert.Pre_finite_ReferenceIdeal.Talk.facts,
  frame_kernel, frame_ideal, fun m ρ _ => frame_ideal m ρ trivial, frame_reference, fun m ρ _ => frame_reference m ρ trivial,
  trivial, algebraic⟩

end Cert.Proof

end
